-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S8x256x1024 : Shape := ⟨3, ![8, 256, 1024]⟩
abbrev S8 : Shape := ⟨1, ![8]⟩
abbrev S_ : Shape := ⟨0, ![]⟩
abbrev S256x256 : Shape := ⟨2, ![256, 256]⟩
abbrev S256x4096 : Shape := ⟨2, ![256, 4096]⟩
abbrev S256x1024 : Shape := ⟨2, ![256, 1024]⟩
abbrev S1x256x1024 : Shape := ⟨3, ![1, 256, 1024]⟩

abbrev nBuf : Space → Nat
  | .hbm => 5
  | .vmem => 9
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e4m3⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S256x8192, .fp8e4m3⟩
  | .local _ .vmem, ⟨2, _⟩ => ⟨S256x8192, .f32⟩
  | .local _ .vmem, ⟨3, _⟩ => ⟨S4096x256, .bf16⟩
  | .local _ .vmem, ⟨4, _⟩ => ⟨S256x8192, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | .local _ .vmem, ⟨8, _⟩ => ⟨S8x256x1024, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 4 37 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v20 : BitVec 32 := Scalar.addi v2 c1_i32_12
  let c16_i32_13 : BitVec 32 := 16#32
  let v21 : BitVec 32 := Scalar.remsi v20 c16_i32_13
  let c256_i32 : BitVec 32 := 256#32
  let v22 : BitVec 32 := Scalar.muli v21 c256_i32
  let v23 : Index := Scalar.indexCast v22
  let c0_14 : Index := 0#32
  ![v23.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_17 : BitVec 32 := 16#32
  let v27 : BitVec 32 := Scalar.addi v2 c16_i32_17
  let c1_i32_18 : BitVec 32 := 1#32
  let v28 : BitVec 32 := Scalar.subi v27 c1_i32_18
  let c16_i32_19 : BitVec 32 := 16#32
  let v29 : BitVec 32 := Scalar.remsi v28 c16_i32_19
  let c256_i32_20 : BitVec 32 := 256#32
  let v30 : BitVec 32 := Scalar.muli v29 c256_i32_20
  let v31 : Index := Scalar.indexCast v30
  let c0_21 : Index := 0#32
  ![v31.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_46 : BitVec 32 := 1#32
  let v76 : BitVec 32 := Scalar.muli v5 c1_i32_46
  let v77 : BitVec 32 := Scalar.addi c0_i32 v76
  v77.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_48 : BitVec 32 := 1#32
  let v78 : BitVec 32 := Scalar.muli v7 c1_i32_48
  let v79 : BitVec 32 := Scalar.addi c0_i32_49 v78
  v79.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_54 : BitVec 32 := 1#32
  let v80 : BitVec 32 := Scalar.muli v5 c1_i32_54
  let v81 : BitVec 32 := Scalar.addi c0_i32_55 v80
  v81.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_64 : BitVec 32 := 1#32
  let v90 : BitVec 32 := Scalar.muli v7 c1_i32_64
  let v91 : BitVec 32 := Scalar.addi c0_i32_65 v90
  v91.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_74 : BitVec 32 := 1#32
  let v100 : BitVec 32 := Scalar.muli v5 c1_i32_74
  let v101 : BitVec 32 := Scalar.addi c0_i32_75 v100
  v101.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_84 : BitVec 32 := 1#32
  let v110 : BitVec 32 := Scalar.muli v7 c1_i32_84
  let v111 : BitVec 32 := Scalar.addi c0_i32_85 v110
  v111.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_94 : BitVec 32 := 1#32
  let v120 : BitVec 32 := Scalar.muli v5 c1_i32_94
  let v121 : BitVec 32 := Scalar.addi c0_i32_95 v120
  v121.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_104 : BitVec 32 := 1#32
  let v130 : BitVec 32 := Scalar.muli v7 c1_i32_104
  let v131 : BitVec 32 := Scalar.addi c0_i32_105 v130
  v131.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_113 : BitVec 32 := 1#32
  let v140 : BitVec 32 := Scalar.muli v5 c1_i32_113
  let v141 : BitVec 32 := Scalar.addi c0_i32_114 v140
  v141.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_123 : BitVec 32 := 1#32
  let v150 : BitVec 32 := Scalar.muli v7 c1_i32_123
  let v151 : BitVec 32 := Scalar.addi c0_i32_124 v150
  v151.toNat
def k0_off3 (d0 : Dev nD) (c1_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v163 : BitVec 32 := Scalar.addi v2 c1_i32_131
  let c1_i32_132 : BitVec 32 := 1#32
  let v164 : BitVec 32 := Scalar.addi v163 c1_i32_132
  let c16_i32_133 : BitVec 32 := 16#32
  let v165 : BitVec 32 := Scalar.remsi v164 c16_i32_133
  let c256_i32_137 : BitVec 32 := 256#32
  let v170 : BitVec 32 := Scalar.muli v165 c256_i32_137
  let v171 : Index := Scalar.indexCast v170
  let c0_138 : Index := 0#32
  ![v171.toNat, 0]
def k0_off4 (d0 : Dev nD) (c1_i32_134 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v166 : BitVec 32 := Scalar.addi v2 c32_i32
  let v167 : BitVec 32 := Scalar.subi v166 c1_i32_134
  let c1_i32_135 : BitVec 32 := 1#32
  let v168 : BitVec 32 := Scalar.subi v167 c1_i32_135
  let c16_i32_136 : BitVec 32 := 16#32
  let v169 : BitVec 32 := Scalar.remsi v168 c16_i32_136
  let c256_i32_142 : BitVec 32 := 256#32
  let v175 : BitVec 32 := Scalar.muli v169 c256_i32_142
  let v176 : Index := Scalar.indexCast v175
  let c0_143 : Index := 0#32
  ![v176.toNat, 0]
def k0_dev11 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_165 : BitVec 32 := 1#32
  let v197 : BitVec 32 := Scalar.muli v5 c1_i32_165
  let v198 : BitVec 32 := Scalar.addi c0_i32_166 v197
  v198.toNat
def k0_dev12 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_191 : BitVec 32 := 1#32
  let v224 : BitVec 32 := Scalar.muli v7 c1_i32_191
  let v225 : BitVec 32 := Scalar.addi c0_i32_192 v224
  v225.toNat
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_215 : BitVec 32 := 1#32
  let v251 : BitVec 32 := Scalar.muli v5 c1_i32_215
  let v252 : BitVec 32 := Scalar.addi c0_i32_216 v251
  v252.toNat
def k0_dev14 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_241 : BitVec 32 := 1#32
  let v278 : BitVec 32 := Scalar.muli v7 c1_i32_241
  let v279 : BitVec 32 := Scalar.addi c0_i32_242 v278
  v279.toNat
def k0_dev15 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_265 : BitVec 32 := 1#32
  let v305 : BitVec 32 := Scalar.muli v5 c1_i32_265
  let v306 : BitVec 32 := Scalar.addi c0_i32_266 v305
  v306.toNat
def k0_dev16 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_291 : BitVec 32 := 1#32
  let v332 : BitVec 32 := Scalar.muli v7 c1_i32_291
  let v333 : BitVec 32 := Scalar.addi c0_i32_292 v332
  v333.toNat
def k0_dev17 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_315 : BitVec 32 := 1#32
  let v359 : BitVec 32 := Scalar.muli v5 c1_i32_315
  let v360 : BitVec 32 := Scalar.addi c0_i32_316 v359
  v360.toNat
def k0_dev18 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_341 : BitVec 32 := 1#32
  let v386 : BitVec 32 := Scalar.muli v7 c1_i32_341
  let v387 : BitVec 32 := Scalar.addi c0_i32_342 v386
  v387.toNat
def k0_dev19 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_348 : BitVec 32 := 1#32
  let v396 : BitVec 32 := Scalar.muli v7 c1_i32_348
  let v397 : BitVec 32 := Scalar.addi c0_i32_349 v396
  v397.toNat
def k0_dev20 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_351 : BitVec 32 := 1#32
  let v398 : BitVec 32 := Scalar.muli v5 c1_i32_351
  let v399 : BitVec 32 := Scalar.addi c0_i32_352 v398
  v399.toNat
def k0_dev21 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_466 : BitVec 32 := 1#32
  let v482 : BitVec 32 := Scalar.muli v5 c1_i32_466
  let v483 : BitVec 32 := Scalar.addi c0_i32_467 v482
  v483.toNat
def k0_dev22 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_492 : BitVec 32 := 1#32
  let v509 : BitVec 32 := Scalar.muli v7 c1_i32_492
  let v510 : BitVec 32 := Scalar.addi c0_i32_493 v509
  v510.toNat
def k0_dev23 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_518 : BitVec 32 := 1#32
  let v536 : BitVec 32 := Scalar.muli v5 c1_i32_518
  let v537 : BitVec 32 := Scalar.addi c0_i32_519 v536
  v537.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_544 : BitVec 32 := 1#32
  let v563 : BitVec 32 := Scalar.muli v7 c1_i32_544
  let v564 : BitVec 32 := Scalar.addi c0_i32_545 v563
  v564.toNat
def k0_dev25 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_570 : BitVec 32 := 1#32
  let v590 : BitVec 32 := Scalar.muli v5 c1_i32_570
  let v591 : BitVec 32 := Scalar.addi c0_i32_571 v590
  v591.toNat
def k0_dev26 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_596 : BitVec 32 := 1#32
  let v617 : BitVec 32 := Scalar.muli v7 c1_i32_596
  let v618 : BitVec 32 := Scalar.addi c0_i32_597 v617
  v618.toNat
def k0_dev27 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_622 : BitVec 32 := 1#32
  let v644 : BitVec 32 := Scalar.muli v5 c1_i32_622
  let v645 : BitVec 32 := Scalar.addi c0_i32_623 v644
  v645.toNat
def k0_dev28 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_648 : BitVec 32 := 1#32
  let v671 : BitVec 32 := Scalar.muli v7 c1_i32_648
  let v672 : BitVec 32 := Scalar.addi c0_i32_649 v671
  v672.toNat
def k0_dev29 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_655 : BitVec 32 := 1#32
  let v681 : BitVec 32 := Scalar.muli v7 c1_i32_655
  let v682 : BitVec 32 := Scalar.addi c0_i32_656 v681
  v682.toNat
def k0_dev30 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_658 : BitVec 32 := 1#32
  let v683 : BitVec 32 := Scalar.muli v5 c1_i32_658
  let v684 : BitVec 32 := Scalar.addi c0_i32_659 v683
  v684.toNat
def k0_dev31 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_773 : BitVec 32 := 1#32
  let v767 : BitVec 32 := Scalar.muli v5 c1_i32_773
  let v768 : BitVec 32 := Scalar.addi c0_i32_774 v767
  v768.toNat
def k0_dev32 (d0 : Dev nD) : Nat :=
  let c0_i32_800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_799 : BitVec 32 := 1#32
  let v794 : BitVec 32 := Scalar.muli v7 c1_i32_799
  let v795 : BitVec 32 := Scalar.addi c0_i32_800 v794
  v795.toNat
def k0_dev33 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_825 : BitVec 32 := 1#32
  let v821 : BitVec 32 := Scalar.muli v5 c1_i32_825
  let v822 : BitVec 32 := Scalar.addi c0_i32_826 v821
  v822.toNat
def k0_dev34 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_851 : BitVec 32 := 1#32
  let v848 : BitVec 32 := Scalar.muli v7 c1_i32_851
  let v849 : BitVec 32 := Scalar.addi c0_i32_852 v848
  v849.toNat
def k0_dev35 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_877 : BitVec 32 := 1#32
  let v875 : BitVec 32 := Scalar.muli v5 c1_i32_877
  let v876 : BitVec 32 := Scalar.addi c0_i32_878 v875
  v876.toNat
def k0_dev36 (d0 : Dev nD) : Nat :=
  let c0_i32_904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_903 : BitVec 32 := 1#32
  let v902 : BitVec 32 := Scalar.muli v7 c1_i32_903
  let v903 : BitVec 32 := Scalar.addi c0_i32_904 v902
  v903.toNat
def k0_dev37 (d0 : Dev nD) : Nat :=
  let c0_i32_930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_929 : BitVec 32 := 1#32
  let v929 : BitVec 32 := Scalar.muli v5 c1_i32_929
  let v930 : BitVec 32 := Scalar.addi c0_i32_930 v929
  v930.toNat
def k0_dev38 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_955 : BitVec 32 := 1#32
  let v956 : BitVec 32 := Scalar.muli v7 c1_i32_955
  let v957 : BitVec 32 := Scalar.addi c0_i32_956 v956
  v957.toNat
def k0_dev39 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_962 : BitVec 32 := 1#32
  let v966 : BitVec 32 := Scalar.muli v7 c1_i32_962
  let v967 : BitVec 32 := Scalar.addi c0_i32_963 v966
  v967.toNat
def k0_dev40 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_965 : BitVec 32 := 1#32
  let v968 : BitVec 32 := Scalar.muli v5 c1_i32_965
  let v969 : BitVec 32 := Scalar.addi c0_i32_966 v968
  v969.toNat
def k0_dev41 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1080 : BitVec 32 := 1#32
  let v1052 : BitVec 32 := Scalar.muli v5 c1_i32_1080
  let v1053 : BitVec 32 := Scalar.addi c0_i32_1081 v1052
  v1053.toNat
def k0_dev42 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1106 : BitVec 32 := 1#32
  let v1079 : BitVec 32 := Scalar.muli v7 c1_i32_1106
  let v1080 : BitVec 32 := Scalar.addi c0_i32_1107 v1079
  v1080.toNat
def k0_dev43 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1132 : BitVec 32 := 1#32
  let v1106 : BitVec 32 := Scalar.muli v5 c1_i32_1132
  let v1107 : BitVec 32 := Scalar.addi c0_i32_1133 v1106
  v1107.toNat
def k0_dev44 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1158 : BitVec 32 := 1#32
  let v1133 : BitVec 32 := Scalar.muli v7 c1_i32_1158
  let v1134 : BitVec 32 := Scalar.addi c0_i32_1159 v1133
  v1134.toNat
def k0_dev45 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1184 : BitVec 32 := 1#32
  let v1160 : BitVec 32 := Scalar.muli v5 c1_i32_1184
  let v1161 : BitVec 32 := Scalar.addi c0_i32_1185 v1160
  v1161.toNat
def k0_dev46 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1210 : BitVec 32 := 1#32
  let v1187 : BitVec 32 := Scalar.muli v7 c1_i32_1210
  let v1188 : BitVec 32 := Scalar.addi c0_i32_1211 v1187
  v1188.toNat
def k0_dev47 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1236 : BitVec 32 := 1#32
  let v1214 : BitVec 32 := Scalar.muli v5 c1_i32_1236
  let v1215 : BitVec 32 := Scalar.addi c0_i32_1237 v1214
  v1215.toNat
def k0_dev48 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1262 : BitVec 32 := 1#32
  let v1241 : BitVec 32 := Scalar.muli v7 c1_i32_1262
  let v1242 : BitVec 32 := Scalar.addi c0_i32_1263 v1241
  v1242.toNat
def k0_dev49 (d0 : Dev nD) : Nat :=
  let c0_i32_1270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1269 : BitVec 32 := 1#32
  let v1251 : BitVec 32 := Scalar.muli v7 c1_i32_1269
  let v1252 : BitVec 32 := Scalar.addi c0_i32_1270 v1251
  v1252.toNat
def k0_dev50 (d0 : Dev nD) : Nat :=
  let c0_i32_1273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1272 : BitVec 32 := 1#32
  let v1253 : BitVec 32 := Scalar.muli v5 c1_i32_1272
  let v1254 : BitVec 32 := Scalar.addi c0_i32_1273 v1253
  v1254.toNat
def k0_dev51 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1387 : BitVec 32 := 1#32
  let v1337 : BitVec 32 := Scalar.muli v5 c1_i32_1387
  let v1338 : BitVec 32 := Scalar.addi c0_i32_1388 v1337
  v1338.toNat
def k0_dev52 (d0 : Dev nD) : Nat :=
  let c0_i32_1414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1413 : BitVec 32 := 1#32
  let v1364 : BitVec 32 := Scalar.muli v7 c1_i32_1413
  let v1365 : BitVec 32 := Scalar.addi c0_i32_1414 v1364
  v1365.toNat
def k0_dev53 (d0 : Dev nD) : Nat :=
  let c0_i32_1440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1439 : BitVec 32 := 1#32
  let v1391 : BitVec 32 := Scalar.muli v5 c1_i32_1439
  let v1392 : BitVec 32 := Scalar.addi c0_i32_1440 v1391
  v1392.toNat
def k0_dev54 (d0 : Dev nD) : Nat :=
  let c0_i32_1466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1465 : BitVec 32 := 1#32
  let v1418 : BitVec 32 := Scalar.muli v7 c1_i32_1465
  let v1419 : BitVec 32 := Scalar.addi c0_i32_1466 v1418
  v1419.toNat
def k0_dev55 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1491 : BitVec 32 := 1#32
  let v1445 : BitVec 32 := Scalar.muli v5 c1_i32_1491
  let v1446 : BitVec 32 := Scalar.addi c0_i32_1492 v1445
  v1446.toNat
def k0_dev56 (d0 : Dev nD) : Nat :=
  let c0_i32_1518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1517 : BitVec 32 := 1#32
  let v1472 : BitVec 32 := Scalar.muli v7 c1_i32_1517
  let v1473 : BitVec 32 := Scalar.addi c0_i32_1518 v1472
  v1473.toNat
def k0_dev57 (d0 : Dev nD) : Nat :=
  let c0_i32_1544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1543 : BitVec 32 := 1#32
  let v1499 : BitVec 32 := Scalar.muli v5 c1_i32_1543
  let v1500 : BitVec 32 := Scalar.addi c0_i32_1544 v1499
  v1500.toNat
def k0_dev58 (d0 : Dev nD) : Nat :=
  let c0_i32_1570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1569 : BitVec 32 := 1#32
  let v1526 : BitVec 32 := Scalar.muli v7 c1_i32_1569
  let v1527 : BitVec 32 := Scalar.addi c0_i32_1570 v1526
  v1527.toNat
def k0_dev59 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1576 : BitVec 32 := 1#32
  let v1536 : BitVec 32 := Scalar.muli v7 c1_i32_1576
  let v1537 : BitVec 32 := Scalar.addi c0_i32_1577 v1536
  v1537.toNat
def k0_dev60 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1579 : BitVec 32 := 1#32
  let v1538 : BitVec 32 := Scalar.muli v5 c1_i32_1579
  let v1539 : BitVec 32 := Scalar.addi c0_i32_1580 v1538
  v1539.toNat
def k0_dev61 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1694 : BitVec 32 := 1#32
  let v1622 : BitVec 32 := Scalar.muli v5 c1_i32_1694
  let v1623 : BitVec 32 := Scalar.addi c0_i32_1695 v1622
  v1623.toNat
def k0_dev62 (d0 : Dev nD) : Nat :=
  let c0_i32_1721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1720 : BitVec 32 := 1#32
  let v1649 : BitVec 32 := Scalar.muli v7 c1_i32_1720
  let v1650 : BitVec 32 := Scalar.addi c0_i32_1721 v1649
  v1650.toNat
def k0_dev63 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1746 : BitVec 32 := 1#32
  let v1676 : BitVec 32 := Scalar.muli v5 c1_i32_1746
  let v1677 : BitVec 32 := Scalar.addi c0_i32_1747 v1676
  v1677.toNat
def k0_dev64 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1772 : BitVec 32 := 1#32
  let v1703 : BitVec 32 := Scalar.muli v7 c1_i32_1772
  let v1704 : BitVec 32 := Scalar.addi c0_i32_1773 v1703
  v1704.toNat
def k0_dev65 (d0 : Dev nD) : Nat :=
  let c0_i32_1799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1798 : BitVec 32 := 1#32
  let v1730 : BitVec 32 := Scalar.muli v5 c1_i32_1798
  let v1731 : BitVec 32 := Scalar.addi c0_i32_1799 v1730
  v1731.toNat
def k0_dev66 (d0 : Dev nD) : Nat :=
  let c0_i32_1825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1824 : BitVec 32 := 1#32
  let v1757 : BitVec 32 := Scalar.muli v7 c1_i32_1824
  let v1758 : BitVec 32 := Scalar.addi c0_i32_1825 v1757
  v1758.toNat
def k0_dev67 (d0 : Dev nD) : Nat :=
  let c0_i32_1851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1850 : BitVec 32 := 1#32
  let v1784 : BitVec 32 := Scalar.muli v5 c1_i32_1850
  let v1785 : BitVec 32 := Scalar.addi c0_i32_1851 v1784
  v1785.toNat
def k0_dev68 (d0 : Dev nD) : Nat :=
  let c0_i32_1877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1876 : BitVec 32 := 1#32
  let v1811 : BitVec 32 := Scalar.muli v7 c1_i32_1876
  let v1812 : BitVec 32 := Scalar.addi c0_i32_1877 v1811
  v1812.toNat
def k0_dev69 (d0 : Dev nD) : Nat :=
  let c0_i32_1884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1883 : BitVec 32 := 1#32
  let v1821 : BitVec 32 := Scalar.muli v7 c1_i32_1883
  let v1822 : BitVec 32 := Scalar.addi c0_i32_1884 v1821
  v1822.toNat
def k0_dev70 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1886 : BitVec 32 := 1#32
  let v1823 : BitVec 32 := Scalar.muli v5 c1_i32_1886
  let v1824 : BitVec 32 := Scalar.addi c0_i32_1887 v1823
  v1824.toNat
def k0_dev71 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2001 : BitVec 32 := 1#32
  let v1907 : BitVec 32 := Scalar.muli v5 c1_i32_2001
  let v1908 : BitVec 32 := Scalar.addi c0_i32_2002 v1907
  v1908.toNat
def k0_dev72 (d0 : Dev nD) : Nat :=
  let c0_i32_2028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2027 : BitVec 32 := 1#32
  let v1934 : BitVec 32 := Scalar.muli v7 c1_i32_2027
  let v1935 : BitVec 32 := Scalar.addi c0_i32_2028 v1934
  v1935.toNat
def k0_dev73 (d0 : Dev nD) : Nat :=
  let c0_i32_2054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2053 : BitVec 32 := 1#32
  let v1961 : BitVec 32 := Scalar.muli v5 c1_i32_2053
  let v1962 : BitVec 32 := Scalar.addi c0_i32_2054 v1961
  v1962.toNat
def k0_dev74 (d0 : Dev nD) : Nat :=
  let c0_i32_2080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2079 : BitVec 32 := 1#32
  let v1988 : BitVec 32 := Scalar.muli v7 c1_i32_2079
  let v1989 : BitVec 32 := Scalar.addi c0_i32_2080 v1988
  v1989.toNat
def k0_dev75 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2105 : BitVec 32 := 1#32
  let v2015 : BitVec 32 := Scalar.muli v5 c1_i32_2105
  let v2016 : BitVec 32 := Scalar.addi c0_i32_2106 v2015
  v2016.toNat
def k0_dev76 (d0 : Dev nD) : Nat :=
  let c0_i32_2132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2131 : BitVec 32 := 1#32
  let v2042 : BitVec 32 := Scalar.muli v7 c1_i32_2131
  let v2043 : BitVec 32 := Scalar.addi c0_i32_2132 v2042
  v2043.toNat
def k0_dev77 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2157 : BitVec 32 := 1#32
  let v2069 : BitVec 32 := Scalar.muli v5 c1_i32_2157
  let v2070 : BitVec 32 := Scalar.addi c0_i32_2158 v2069
  v2070.toNat
def k0_dev78 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2183 : BitVec 32 := 1#32
  let v2096 : BitVec 32 := Scalar.muli v7 c1_i32_2183
  let v2097 : BitVec 32 := Scalar.addi c0_i32_2184 v2096
  v2097.toNat
def k0_dev79 (d0 : Dev nD) : Nat :=
  let c0_i32_2191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2190 : BitVec 32 := 1#32
  let v2106 : BitVec 32 := Scalar.muli v7 c1_i32_2190
  let v2107 : BitVec 32 := Scalar.addi c0_i32_2191 v2106
  v2107.toNat
def k0_dev80 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2193 : BitVec 32 := 1#32
  let v2108 : BitVec 32 := Scalar.muli v5 c1_i32_2193
  let v2109 : BitVec 32 := Scalar.addi c0_i32_2194 v2108
  v2109.toNat
def k0_dev81 (d0 : Dev nD) : Nat :=
  let c0_i32_2308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2307 : BitVec 32 := 1#32
  let v2192 : BitVec 32 := Scalar.muli v5 c1_i32_2307
  let v2193 : BitVec 32 := Scalar.addi c0_i32_2308 v2192
  v2193.toNat
def k0_dev82 (d0 : Dev nD) : Nat :=
  let c0_i32_2334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2333 : BitVec 32 := 1#32
  let v2219 : BitVec 32 := Scalar.muli v7 c1_i32_2333
  let v2220 : BitVec 32 := Scalar.addi c0_i32_2334 v2219
  v2220.toNat
def k0_dev83 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2359 : BitVec 32 := 1#32
  let v2246 : BitVec 32 := Scalar.muli v5 c1_i32_2359
  let v2247 : BitVec 32 := Scalar.addi c0_i32_2360 v2246
  v2247.toNat
def k0_dev84 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2385 : BitVec 32 := 1#32
  let v2273 : BitVec 32 := Scalar.muli v7 c1_i32_2385
  let v2274 : BitVec 32 := Scalar.addi c0_i32_2386 v2273
  v2274.toNat
def k0_dev85 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2411 : BitVec 32 := 1#32
  let v2300 : BitVec 32 := Scalar.muli v5 c1_i32_2411
  let v2301 : BitVec 32 := Scalar.addi c0_i32_2412 v2300
  v2301.toNat
def k0_dev86 (d0 : Dev nD) : Nat :=
  let c0_i32_2438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2437 : BitVec 32 := 1#32
  let v2327 : BitVec 32 := Scalar.muli v7 c1_i32_2437
  let v2328 : BitVec 32 := Scalar.addi c0_i32_2438 v2327
  v2328.toNat
def k0_dev87 (d0 : Dev nD) : Nat :=
  let c0_i32_2464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2463 : BitVec 32 := 1#32
  let v2354 : BitVec 32 := Scalar.muli v5 c1_i32_2463
  let v2355 : BitVec 32 := Scalar.addi c0_i32_2464 v2354
  v2355.toNat
def k0_dev88 (d0 : Dev nD) : Nat :=
  let c0_i32_2490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2489 : BitVec 32 := 1#32
  let v2381 : BitVec 32 := Scalar.muli v7 c1_i32_2489
  let v2382 : BitVec 32 := Scalar.addi c0_i32_2490 v2381
  v2382.toNat
def k0_dev89 (d0 : Dev nD) : Nat :=
  let c0_i32_2497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2496 : BitVec 32 := 1#32
  let v2391 : BitVec 32 := Scalar.muli v7 c1_i32_2496
  let v2392 : BitVec 32 := Scalar.addi c0_i32_2497 v2391
  v2392.toNat
def k0_dev90 (d0 : Dev nD) : Nat :=
  let c0_i32_2500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2499 : BitVec 32 := 1#32
  let v2393 : BitVec 32 := Scalar.muli v5 c1_i32_2499
  let v2394 : BitVec 32 := Scalar.addi c0_i32_2500 v2393
  v2394.toNat
def k0_dev91 (d0 : Dev nD) : Nat :=
  let c0_i32_2614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2613 : BitVec 32 := 1#32
  let v2477 : BitVec 32 := Scalar.muli v5 c1_i32_2613
  let v2478 : BitVec 32 := Scalar.addi c0_i32_2614 v2477
  v2478.toNat
def k0_dev92 (d0 : Dev nD) : Nat :=
  let c0_i32_2640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2639 : BitVec 32 := 1#32
  let v2504 : BitVec 32 := Scalar.muli v7 c1_i32_2639
  let v2505 : BitVec 32 := Scalar.addi c0_i32_2640 v2504
  v2505.toNat
def k0_dev93 (d0 : Dev nD) : Nat :=
  let c0_i32_2666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2665 : BitVec 32 := 1#32
  let v2531 : BitVec 32 := Scalar.muli v5 c1_i32_2665
  let v2532 : BitVec 32 := Scalar.addi c0_i32_2666 v2531
  v2532.toNat
def k0_dev94 (d0 : Dev nD) : Nat :=
  let c0_i32_2692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2691 : BitVec 32 := 1#32
  let v2558 : BitVec 32 := Scalar.muli v7 c1_i32_2691
  let v2559 : BitVec 32 := Scalar.addi c0_i32_2692 v2558
  v2559.toNat
def k0_dev95 (d0 : Dev nD) : Nat :=
  let c0_i32_2718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2717 : BitVec 32 := 1#32
  let v2585 : BitVec 32 := Scalar.muli v5 c1_i32_2717
  let v2586 : BitVec 32 := Scalar.addi c0_i32_2718 v2585
  v2586.toNat
def k0_dev96 (d0 : Dev nD) : Nat :=
  let c0_i32_2744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2743 : BitVec 32 := 1#32
  let v2612 : BitVec 32 := Scalar.muli v7 c1_i32_2743
  let v2613 : BitVec 32 := Scalar.addi c0_i32_2744 v2612
  v2613.toNat
def k0_dev97 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2769 : BitVec 32 := 1#32
  let v2639 : BitVec 32 := Scalar.muli v5 c1_i32_2769
  let v2640 : BitVec 32 := Scalar.addi c0_i32_2770 v2639
  v2640.toNat
def k0_dev98 (d0 : Dev nD) : Nat :=
  let c0_i32_2796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2795 : BitVec 32 := 1#32
  let v2666 : BitVec 32 := Scalar.muli v7 c1_i32_2795
  let v2667 : BitVec 32 := Scalar.addi c0_i32_2796 v2666
  v2667.toNat
def k0_dev99 (d0 : Dev nD) : Nat :=
  let c0_i32_2803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2802 : BitVec 32 := 1#32
  let v2676 : BitVec 32 := Scalar.muli v7 c1_i32_2802
  let v2677 : BitVec 32 := Scalar.addi c0_i32_2803 v2676
  v2677.toNat
def k0_dev100 (d0 : Dev nD) : Nat :=
  let c0_i32_2806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2805 : BitVec 32 := 1#32
  let v2678 : BitVec 32 := Scalar.muli v5 c1_i32_2805
  let v2679 : BitVec 32 := Scalar.addi c0_i32_2806 v2678
  v2679.toNat
def k0_dev101 (d0 : Dev nD) : Nat :=
  let c0_i32_2920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2919 : BitVec 32 := 1#32
  let v2762 : BitVec 32 := Scalar.muli v5 c1_i32_2919
  let v2763 : BitVec 32 := Scalar.addi c0_i32_2920 v2762
  v2763.toNat
def k0_dev102 (d0 : Dev nD) : Nat :=
  let c0_i32_2946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2945 : BitVec 32 := 1#32
  let v2789 : BitVec 32 := Scalar.muli v7 c1_i32_2945
  let v2790 : BitVec 32 := Scalar.addi c0_i32_2946 v2789
  v2790.toNat
def k0_dev103 (d0 : Dev nD) : Nat :=
  let c0_i32_2972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2971 : BitVec 32 := 1#32
  let v2816 : BitVec 32 := Scalar.muli v5 c1_i32_2971
  let v2817 : BitVec 32 := Scalar.addi c0_i32_2972 v2816
  v2817.toNat
def k0_dev104 (d0 : Dev nD) : Nat :=
  let c0_i32_2998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2997 : BitVec 32 := 1#32
  let v2843 : BitVec 32 := Scalar.muli v7 c1_i32_2997
  let v2844 : BitVec 32 := Scalar.addi c0_i32_2998 v2843
  v2844.toNat
def k0_dev105 (d0 : Dev nD) : Nat :=
  let c0_i32_3024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3023 : BitVec 32 := 1#32
  let v2870 : BitVec 32 := Scalar.muli v5 c1_i32_3023
  let v2871 : BitVec 32 := Scalar.addi c0_i32_3024 v2870
  v2871.toNat
def k0_dev106 (d0 : Dev nD) : Nat :=
  let c0_i32_3050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3049 : BitVec 32 := 1#32
  let v2897 : BitVec 32 := Scalar.muli v7 c1_i32_3049
  let v2898 : BitVec 32 := Scalar.addi c0_i32_3050 v2897
  v2898.toNat
def k0_dev107 (d0 : Dev nD) : Nat :=
  let c0_i32_3076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3075 : BitVec 32 := 1#32
  let v2924 : BitVec 32 := Scalar.muli v5 c1_i32_3075
  let v2925 : BitVec 32 := Scalar.addi c0_i32_3076 v2924
  v2925.toNat
def k0_dev108 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3101 : BitVec 32 := 1#32
  let v2951 : BitVec 32 := Scalar.muli v7 c1_i32_3101
  let v2952 : BitVec 32 := Scalar.addi c0_i32_3102 v2951
  v2952.toNat
def k0_dev109 (d0 : Dev nD) : Nat :=
  let c0_i32_3109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3108 : BitVec 32 := 1#32
  let v2961 : BitVec 32 := Scalar.muli v7 c1_i32_3108
  let v2962 : BitVec 32 := Scalar.addi c0_i32_3109 v2961
  v2962.toNat
def k0_dev110 (d0 : Dev nD) : Nat :=
  let c0_i32_3112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3111 : BitVec 32 := 1#32
  let v2963 : BitVec 32 := Scalar.muli v5 c1_i32_3111
  let v2964 : BitVec 32 := Scalar.addi c0_i32_3112 v2963
  v2964.toNat
def k0_dev111 (d0 : Dev nD) : Nat :=
  let c0_i32_3226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3225 : BitVec 32 := 1#32
  let v3047 : BitVec 32 := Scalar.muli v5 c1_i32_3225
  let v3048 : BitVec 32 := Scalar.addi c0_i32_3226 v3047
  v3048.toNat
def k0_dev112 (d0 : Dev nD) : Nat :=
  let c0_i32_3252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3251 : BitVec 32 := 1#32
  let v3074 : BitVec 32 := Scalar.muli v7 c1_i32_3251
  let v3075 : BitVec 32 := Scalar.addi c0_i32_3252 v3074
  v3075.toNat
def k0_dev113 (d0 : Dev nD) : Nat :=
  let c0_i32_3278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3277 : BitVec 32 := 1#32
  let v3101 : BitVec 32 := Scalar.muli v5 c1_i32_3277
  let v3102 : BitVec 32 := Scalar.addi c0_i32_3278 v3101
  v3102.toNat
def k0_dev114 (d0 : Dev nD) : Nat :=
  let c0_i32_3304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3303 : BitVec 32 := 1#32
  let v3128 : BitVec 32 := Scalar.muli v7 c1_i32_3303
  let v3129 : BitVec 32 := Scalar.addi c0_i32_3304 v3128
  v3129.toNat
def k0_dev115 (d0 : Dev nD) : Nat :=
  let c0_i32_3330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3329 : BitVec 32 := 1#32
  let v3155 : BitVec 32 := Scalar.muli v5 c1_i32_3329
  let v3156 : BitVec 32 := Scalar.addi c0_i32_3330 v3155
  v3156.toNat
def k0_dev116 (d0 : Dev nD) : Nat :=
  let c0_i32_3356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3355 : BitVec 32 := 1#32
  let v3182 : BitVec 32 := Scalar.muli v7 c1_i32_3355
  let v3183 : BitVec 32 := Scalar.addi c0_i32_3356 v3182
  v3183.toNat
def k0_dev117 (d0 : Dev nD) : Nat :=
  let c0_i32_3382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3381 : BitVec 32 := 1#32
  let v3209 : BitVec 32 := Scalar.muli v5 c1_i32_3381
  let v3210 : BitVec 32 := Scalar.addi c0_i32_3382 v3209
  v3210.toNat
def k0_dev118 (d0 : Dev nD) : Nat :=
  let c0_i32_3408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3407 : BitVec 32 := 1#32
  let v3236 : BitVec 32 := Scalar.muli v7 c1_i32_3407
  let v3237 : BitVec 32 := Scalar.addi c0_i32_3408 v3236
  v3237.toNat
def k0_dev119 (d0 : Dev nD) : Nat :=
  let c0_i32_3415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3414 : BitVec 32 := 1#32
  let v3246 : BitVec 32 := Scalar.muli v7 c1_i32_3414
  let v3247 : BitVec 32 := Scalar.addi c0_i32_3415 v3246
  v3247.toNat
def k0_dev120 (d0 : Dev nD) : Nat :=
  let c0_i32_3418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3417 : BitVec 32 := 1#32
  let v3248 : BitVec 32 := Scalar.muli v5 c1_i32_3417
  let v3249 : BitVec 32 := Scalar.addi c0_i32_3418 v3248
  v3249.toNat
def k0_dev121 (d0 : Dev nD) : Nat :=
  let c0_i32_3532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3531 : BitVec 32 := 1#32
  let v3332 : BitVec 32 := Scalar.muli v5 c1_i32_3531
  let v3333 : BitVec 32 := Scalar.addi c0_i32_3532 v3332
  v3333.toNat
def k0_dev122 (d0 : Dev nD) : Nat :=
  let c0_i32_3558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3557 : BitVec 32 := 1#32
  let v3359 : BitVec 32 := Scalar.muli v7 c1_i32_3557
  let v3360 : BitVec 32 := Scalar.addi c0_i32_3558 v3359
  v3360.toNat
def k0_dev123 (d0 : Dev nD) : Nat :=
  let c0_i32_3584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3583 : BitVec 32 := 1#32
  let v3386 : BitVec 32 := Scalar.muli v5 c1_i32_3583
  let v3387 : BitVec 32 := Scalar.addi c0_i32_3584 v3386
  v3387.toNat
def k0_dev124 (d0 : Dev nD) : Nat :=
  let c0_i32_3610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3609 : BitVec 32 := 1#32
  let v3413 : BitVec 32 := Scalar.muli v7 c1_i32_3609
  let v3414 : BitVec 32 := Scalar.addi c0_i32_3610 v3413
  v3414.toNat
def k0_dev125 (d0 : Dev nD) : Nat :=
  let c0_i32_3636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3635 : BitVec 32 := 1#32
  let v3440 : BitVec 32 := Scalar.muli v5 c1_i32_3635
  let v3441 : BitVec 32 := Scalar.addi c0_i32_3636 v3440
  v3441.toNat
def k0_dev126 (d0 : Dev nD) : Nat :=
  let c0_i32_3662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3661 : BitVec 32 := 1#32
  let v3467 : BitVec 32 := Scalar.muli v7 c1_i32_3661
  let v3468 : BitVec 32 := Scalar.addi c0_i32_3662 v3467
  v3468.toNat
def k0_dev127 (d0 : Dev nD) : Nat :=
  let c0_i32_3688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3687 : BitVec 32 := 1#32
  let v3494 : BitVec 32 := Scalar.muli v5 c1_i32_3687
  let v3495 : BitVec 32 := Scalar.addi c0_i32_3688 v3494
  v3495.toNat
def k0_dev128 (d0 : Dev nD) : Nat :=
  let c0_i32_3714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3713 : BitVec 32 := 1#32
  let v3521 : BitVec 32 := Scalar.muli v7 c1_i32_3713
  let v3522 : BitVec 32 := Scalar.addi c0_i32_3714 v3521
  v3522.toNat
def k0_dev129 (d0 : Dev nD) : Nat :=
  let c0_i32_3721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3720 : BitVec 32 := 1#32
  let v3531 : BitVec 32 := Scalar.muli v7 c1_i32_3720
  let v3532 : BitVec 32 := Scalar.addi c0_i32_3721 v3531
  v3532.toNat
def k0_dev130 (d0 : Dev nD) : Nat :=
  let c0_i32_3724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3723 : BitVec 32 := 1#32
  let v3533 : BitVec 32 := Scalar.muli v5 c1_i32_3723
  let v3534 : BitVec 32 := Scalar.addi c0_i32_3724 v3533
  v3534.toNat
def k0_dev131 (d0 : Dev nD) : Nat :=
  let c0_i32_3838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3837 : BitVec 32 := 1#32
  let v3617 : BitVec 32 := Scalar.muli v5 c1_i32_3837
  let v3618 : BitVec 32 := Scalar.addi c0_i32_3838 v3617
  v3618.toNat
def k0_dev132 (d0 : Dev nD) : Nat :=
  let c0_i32_3864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3863 : BitVec 32 := 1#32
  let v3644 : BitVec 32 := Scalar.muli v7 c1_i32_3863
  let v3645 : BitVec 32 := Scalar.addi c0_i32_3864 v3644
  v3645.toNat
def k0_dev133 (d0 : Dev nD) : Nat :=
  let c0_i32_3890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3889 : BitVec 32 := 1#32
  let v3671 : BitVec 32 := Scalar.muli v5 c1_i32_3889
  let v3672 : BitVec 32 := Scalar.addi c0_i32_3890 v3671
  v3672.toNat
def k0_dev134 (d0 : Dev nD) : Nat :=
  let c0_i32_3916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3915 : BitVec 32 := 1#32
  let v3698 : BitVec 32 := Scalar.muli v7 c1_i32_3915
  let v3699 : BitVec 32 := Scalar.addi c0_i32_3916 v3698
  v3699.toNat
def k0_dev135 (d0 : Dev nD) : Nat :=
  let c0_i32_3942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3941 : BitVec 32 := 1#32
  let v3725 : BitVec 32 := Scalar.muli v5 c1_i32_3941
  let v3726 : BitVec 32 := Scalar.addi c0_i32_3942 v3725
  v3726.toNat
def k0_dev136 (d0 : Dev nD) : Nat :=
  let c0_i32_3968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3967 : BitVec 32 := 1#32
  let v3752 : BitVec 32 := Scalar.muli v7 c1_i32_3967
  let v3753 : BitVec 32 := Scalar.addi c0_i32_3968 v3752
  v3753.toNat
def k0_dev137 (d0 : Dev nD) : Nat :=
  let c0_i32_3994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3993 : BitVec 32 := 1#32
  let v3779 : BitVec 32 := Scalar.muli v5 c1_i32_3993
  let v3780 : BitVec 32 := Scalar.addi c0_i32_3994 v3779
  v3780.toNat
def k0_dev138 (d0 : Dev nD) : Nat :=
  let c0_i32_4020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4019 : BitVec 32 := 1#32
  let v3806 : BitVec 32 := Scalar.muli v7 c1_i32_4019
  let v3807 : BitVec 32 := Scalar.addi c0_i32_4020 v3806
  v3807.toNat
def k0_dev139 (d0 : Dev nD) : Nat :=
  let c0_i32_4027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4026 : BitVec 32 := 1#32
  let v3816 : BitVec 32 := Scalar.muli v7 c1_i32_4026
  let v3817 : BitVec 32 := Scalar.addi c0_i32_4027 v3816
  v3817.toNat
def k0_dev140 (d0 : Dev nD) : Nat :=
  let c0_i32_4030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4029 : BitVec 32 := 1#32
  let v3818 : BitVec 32 := Scalar.muli v5 c1_i32_4029
  let v3819 : BitVec 32 := Scalar.addi c0_i32_4030 v3818
  v3819.toNat
def k0_dev141 (d0 : Dev nD) : Nat :=
  let c0_i32_4144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4143 : BitVec 32 := 1#32
  let v3902 : BitVec 32 := Scalar.muli v5 c1_i32_4143
  let v3903 : BitVec 32 := Scalar.addi c0_i32_4144 v3902
  v3903.toNat
def k0_dev142 (d0 : Dev nD) : Nat :=
  let c0_i32_4170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4169 : BitVec 32 := 1#32
  let v3929 : BitVec 32 := Scalar.muli v7 c1_i32_4169
  let v3930 : BitVec 32 := Scalar.addi c0_i32_4170 v3929
  v3930.toNat
def k0_dev143 (d0 : Dev nD) : Nat :=
  let c0_i32_4196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4195 : BitVec 32 := 1#32
  let v3956 : BitVec 32 := Scalar.muli v5 c1_i32_4195
  let v3957 : BitVec 32 := Scalar.addi c0_i32_4196 v3956
  v3957.toNat
def k0_dev144 (d0 : Dev nD) : Nat :=
  let c0_i32_4222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4221 : BitVec 32 := 1#32
  let v3983 : BitVec 32 := Scalar.muli v7 c1_i32_4221
  let v3984 : BitVec 32 := Scalar.addi c0_i32_4222 v3983
  v3984.toNat
def k0_dev145 (d0 : Dev nD) : Nat :=
  let c0_i32_4248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4247 : BitVec 32 := 1#32
  let v4010 : BitVec 32 := Scalar.muli v5 c1_i32_4247
  let v4011 : BitVec 32 := Scalar.addi c0_i32_4248 v4010
  v4011.toNat
def k0_dev146 (d0 : Dev nD) : Nat :=
  let c0_i32_4274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4273 : BitVec 32 := 1#32
  let v4037 : BitVec 32 := Scalar.muli v7 c1_i32_4273
  let v4038 : BitVec 32 := Scalar.addi c0_i32_4274 v4037
  v4038.toNat
def k0_dev147 (d0 : Dev nD) : Nat :=
  let c0_i32_4300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4299 : BitVec 32 := 1#32
  let v4064 : BitVec 32 := Scalar.muli v5 c1_i32_4299
  let v4065 : BitVec 32 := Scalar.addi c0_i32_4300 v4064
  v4065.toNat
def k0_dev148 (d0 : Dev nD) : Nat :=
  let c0_i32_4326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4325 : BitVec 32 := 1#32
  let v4091 : BitVec 32 := Scalar.muli v7 c1_i32_4325
  let v4092 : BitVec 32 := Scalar.addi c0_i32_4326 v4091
  v4092.toNat
def k0_dev149 (d0 : Dev nD) : Nat :=
  let c0_i32_4615_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4614_r0 : BitVec 32 := 1#32
  let v4359_r0 : BitVec 32 := Scalar.muli v5 c1_i32_4614_r0
  let v4360_r0 : BitVec 32 := Scalar.addi c0_i32_4615_r0 v4359_r0
  v4360_r0.toNat
def k0_dev150 (d0 : Dev nD) : Nat :=
  let c0_i32_4618_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4617_r0 : BitVec 32 := 1#32
  let v4361_r0 : BitVec 32 := Scalar.muli v7 c1_i32_4617_r0
  let v4362_r0 : BitVec 32 := Scalar.addi c0_i32_4618_r0 v4361_r0
  v4362_r0.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
  The kernel body, written over the hop number. The printed body is one straight line of about nine
  thousand statements; it is a first hop, fifteen steps that differ only in the hop number, and the
  closing waits. This module names the pieces — a slot's load and store, a send, the two kinds of
  DMA wait, a step's two partial products, the eight stages of a step — over the ring direction
  `b` (`false`: to the left, `true`: to the right), the sub-block `s` and the hop `h`, composes them
  into `body c`, and proves that the printed body IS `deviceId` followed by it (`body_eq`).
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-- What a piece of the body is: a program of a TensorCore thread. -/
abbrev KProg (F : FTy → Type) : Type 1 := Prog (TpuEff nD τ sig (Elt F) Λ₀ .tc) PUnit

/-! ## Buffers, slots and semaphores -/

/-- The bf16 copies of the two operands. -/
abbrev xM : Memref sig .tc .vmem S4096x256 .bf16 := Memref.whole cc0_scratch0
abbrev wM : Memref sig .tc .vmem S256x8192 .bf16 := Memref.whole cc0_scratch1
/-- The result's staging buffer. -/
abbrev oM : Memref sig .tc .vmem S256x8192 .f32 := Memref.whole cc0_stg4_0

/-- The buffer whose slots ring `b` sends from, -/
def sendM : Bool → Memref sig .tc .vmem S8x256x1024 .bf16
  | false => Memref.whole cc0_scratch2
  | true => Memref.whole cc0_scratch4
/-- and the one it receives into. -/
def recvM : Bool → Memref sig .tc .vmem S8x256x1024 .bf16
  | false => Memref.whole cc0_scratch3
  | true => Memref.whole cc0_scratch5

theorem sendM_whole (b : Bool) : (sendM b).IsWhole := by cases b <;> exact Memref.isWhole_whole _
theorem recvM_whole (b : Bool) : (recvM b).IsWhole := by cases b <;> exact Memref.isWhole_whole _

theorem inb8 (k : Fin 8) : ∀ a, (![k.val, 0, 0] : Fin 3 → Nat) a + S1x256x1024.size a ≤ S8x256x1024.size a := by
  revert k; decide
/-- Slot `k` of an eight-slot buffer, as a rectangle. -/
abbrev slotR (k : Fin 8) : Rect S8x256x1024 := Rect.unit (s := S8x256x1024) ![k.val, 0, 0] S1x256x1024.size (inb8 k)
theorem packed8 (k : Fin 8) : (slotR k).PackedRows (EltTy.packing .bf16) := by revert k; decide
theorem words8 (k : Fin 8) : (slotR k).WholeWords (EltTy.packing .bf16) := by revert k; decide
/-- Slot `k` as the copies see it: a 256 x 1024 buffer. -/
abbrev slotV (M : Memref sig .tc .vmem S8x256x1024 .bf16) (k : Fin 8) : Memref sig .tc .vmem S256x1024 .bf16 :=
  (M.slice (slotR k) (fun _ => rfl)).squeeze S256x1024 squeezes_S1x256x1024_S256x1024

theorem inb1 (k : Fin 8) : ∀ a, (![k.val] : Fin 1 → Nat) a + S1.size a ≤ S8.size a := by revert k; decide
/-- The semaphore of slot `k` in an array of eight. -/
abbrev semAt (A : DmaSems sig S8) (k : Fin 8) : DmaSem sig :=
  ((A.slice (Rect.unit (s := S8) ![k.val] S1.size (inb1 k))).squeeze S_ squeezes_S1_S_).sem
def ssemA : Bool → DmaSems sig S8
  | false => cc0_scratch6
  | true => cc0_scratch8
def rsemA : Bool → DmaSems sig S8
  | false => cc0_scratch7
  | true => cc0_scratch9
/-- What a send from slot `k` of ring `b` credits on the sender, -/
abbrev ssem (b : Bool) (k : Fin 8) : DmaSem sig := semAt (ssemA b) k
/-- and on the receiver. -/
abbrev rsem (b : Bool) (k : Fin 8) : DmaSem sig := semAt (rsemA b) k
/-- Ring `b`'s flow-control semaphore. -/
def credA : Bool → Sems sig S_
  | false => cc0_scratch10
  | true => cc0_scratch11
abbrev credS (b : Bool) : Sem sig := (credA b).sem

/-- Ring `b`'s neighbour: where its sends go. -/
def dst : Bool → Dev nD → Dev nD
  | false, c => ⟨k0_dev1 c, k0_dev1_lt c⟩
  | true, c => ⟨k0_dev2 c, k0_dev2_lt c⟩

/-- The slot hop `h` uses for sub-block `s`: the hops alternate between two groups of four. -/
def slot (h : ℕ) (s : Fin 4) : Fin 8 := ⟨h % 2 * 4 + s.val, by omega⟩

/-! ## What the body computes -/

theorem slices4 (s : Fin 4) : S256x4096.Slices ![0, 1024 * s.val] S256x1024 := by revert s; decide
/-- Sub-block `s` of a partial product. -/
def sub (s : Fin 4) (p : FVec F S256x4096 .f32) : FVec F S256x1024 .f32 :=
  extractStridedSlice S256x1024 ![0, 1024 * s.val] p (slices4 s)
/-- Rows of `x` against half the columns of `w`. -/
def prod (a : Vec F S256x256 .bf16) (v : Vec F S256x4096 .bf16) : FVec F S256x4096 .f32 :=
  matmul dot_S256x256_S256x4096_S256x4096_1_0_0_1_n_n none a v (constant S256x4096 .f32 0x00000000#32)
/-- What is stored to a slot. -/
def pack (v : FVec F S256x1024 .f32) : FVec F S1x256x1024 .bf16 :=
  shapeCast S1x256x1024 (truncf .bf16 v bitsLt_bf16_f32) shapeCasts_S256x1024_S1x256x1024
/-- A sub-block plus what was received for it. -/
def comb (s : Fin 4) (p : FVec F S256x4096 .f32) (r : Vec F S256x1024 .bf16) : FVec F S256x1024 .f32 :=
  addf (sub s p) (extf .f32 r bitsLt_bf16_f32)
/-- A slot's contents as a 256 x 1024 vector. -/
def unslot (r : Vec F S1x256x1024 .bf16) : Vec F S256x1024 .bf16 :=
  shapeCast S256x1024 r shapeCasts_S1x256x1024_S256x1024
/-- Scale, and take the positive part. -/
def fin (a : F .f32) (v : FVec F S256x1024 .f32) : FVec F S256x1024 .f32 :=
  maximumf (mulf v (broadcast S256x1024 a)) (broadcast S256x1024 (Scalar.ofBits .f32 0x00000000#32))

/-! ## The pieces -/

/-- Load a slot. -/
def loadSlot (M : Memref sig .tc .vmem S8x256x1024 .bf16) (k : Fin 8) (K : Vec F S1x256x1024 .bf16 → KProg F) : KProg F :=
  .op (.load M (slotR k).toLoadRect (View.loadsAt_vmem h_S1x256x1024)) K
/-- Store to a send slot, after the load of it the printed body carries. -/
def storeSend (b : Bool) (k : Fin 8) (v : FVec F S1x256x1024 .bf16) (K : KProg F) : KProg F :=
  loadSlot (sendM b) k fun _ =>
  .op (.store (sendM b) (slotR k) v Finset.univ
    (View.stores_vmem h_S1x256x1024 ((sendM_whole b).storeExact_slice rfl _ (packed8 k)) (fun _ => rfl)) (.inl rfl)) fun _ => K
/-- Ring `b`'s copy of slot `k` to device `n`. -/
def sendTo (b : Bool) (k : Fin 8) (n : Dev nD) (K : KProg F) : KProg F :=
  .op (.enqueueDma (slotV (sendM b) k) (.remote (Dev.tc n) (slotV (recvM b) k) (.dma (ssem b k))) (.dma (rsem b k))
    (((sendM_whole b).wordExact_slice rfl _ (words8 k)).reshape _ _) (((recvM_whole b).wordExact_slice rfl _ (words8 k)).reshape _ _)
    ⟨⟨rfl, Or.inl rfl⟩, trivial⟩) fun _ => K
/-- Wait for the copy landing in slot `k`. -/
def waitRecv (b : Bool) (k : Fin 8) (K : KProg F) : KProg F :=
  .op (.waitDma2 (rsem b k) (slotV (sendM b) k) (slotV (recvM b) k)
    (((sendM_whole b).wordExact_slice rfl _ (words8 k)).reshape _ _) (((recvM_whole b).wordExact_slice rfl _ (words8 k)).reshape _ _)) fun _ => K
/-- Wait for one's own copy out of slot `k`. -/
def waitSend (b : Bool) (k : Fin 8) (K : KProg F) : KProg F :=
  .op (.waitDma2 (ssem b k) (slotV (recvM b) k) (slotV (sendM b) k)
    (((recvM_whole b).wordExact_slice rfl _ (words8 k)).reshape _ _) (((sendM_whole b).wordExact_slice rfl _ (words8 k)).reshape _ _)) fun _ => K
/-- Signal one unit, wait for units. -/
def signal (n : Dev nD) (σ : Sem sig) (K : KProg F) : KProg F := .op (.semSignal (Dev.tc n) σ (1#32 : BitVec 32).toInt) fun _ => K
def waitUnits (σ : Sem sig) (n : BitVec 32) (K : KProg F) : KProg F := .op (.semWait σ n.toInt) fun _ => K

/-- A block of rows of `x`, -/
def loadX (off : Fin 2 → ℕ) (inb : ∀ a, off a + S256x256.size a ≤ S4096x256.size a) (K : Vec F S256x256 .bf16 → KProg F) : KProg F :=
  .op (.load xM (Rect.unit (s := S4096x256) off S256x256.size inb).toLoadRect (View.loadsAt_vmem h_S256x256)) K
theorem inbHalf (b : Bool) : ∀ a, (![0, bif b then 4096 else 0] : Fin 2 → Nat) a + S256x4096.size a ≤ S256x8192.size a := by
  revert b; decide
/-- ring `b`'s half of the columns of `w`. -/
def loadW (b : Bool) (K : Vec F S256x4096 .bf16 → KProg F) : KProg F :=
  .op (.load wM (Rect.unit (s := S256x8192) ![0, bif b then 4096 else 0] S256x4096.size (inbHalf b)).toLoadRect
    (View.loadsAt_vmem h_S256x4096)) K

/-- Cast the operands. -/
def casts (K : KProg F) : KProg F :=
  .op (.load (Memref.whole cc0_stg0_0) (Rect.unit (s := S4096x256) ![0, 0] S4096x256.size inb_S4096x256_S4096x256_0_0).toLoadRect (View.loadsAt_vmem h_S4096x256)) fun x =>
  .op (.load xM (Rect.unit (s := S4096x256) ![0, 0] S4096x256.size inb_S4096x256_S4096x256_0_0).toLoadRect (View.loadsAt_vmem h_S4096x256)) fun _ =>
  .op (.store xM (Rect.unit (s := S4096x256) ![0, 0] S4096x256.size inb_S4096x256_S4096x256_0_0) (k0_pay1 x) Finset.univ (View.stores_vmem h_S4096x256 ((Memref.isWhole_whole _).storeExact_slice rfl _ packedbf16_S4096x256_S4096x256_0_0) (fun _ => rfl)) (.inl rfl)) fun _ =>
  .op (.load (Memref.whole cc0_stg1_0) (Rect.unit (s := S256x8192) ![0, 0] S256x8192.size inb_S256x8192_S256x8192_0_0).toLoadRect (View.loadsAt_vmem h_S256x8192)) fun w =>
  .op (.load wM (Rect.unit (s := S256x8192) ![0, 0] S256x8192.size inb_S256x8192_S256x8192_0_0).toLoadRect (View.loadsAt_vmem h_S256x8192)) fun _ =>
  .op (.store wM (Rect.unit (s := S256x8192) ![0, 0] S256x8192.size inb_S256x8192_S256x8192_0_0) (k0_pay2 w) Finset.univ (View.stores_vmem h_S256x8192 ((Memref.isWhole_whole _).storeExact_slice rfl _ packedbf16_S256x8192_S256x8192_0_0) (fun _ => rfl)) (.inl rfl)) fun _ => K

/-- The first hop's two partial products, -/
def parts0 (c : Dev nD) (K : (Bool → FVec F S256x4096 .f32) → KProg F) : KProg F :=
  loadX (k0_off1 c) (k0_off1_inb c) fun xl => loadW false fun wl =>
  loadX (k0_off2 c) (k0_off2_inb c) fun xr => loadW true fun wr =>
  K fun b => bif b then prod xr wr else prod xl wl
/-- and step `r + 1`'s. -/
def parts (c : Dev nD) (r : Fin 15) (K : (Bool → FVec F S256x4096 .f32) → KProg F) : KProg F :=
  loadX (k0_off3 c (BitVec.ofNat 32 (1 + r.val))) (k0_off3_inb c r) fun xl => loadW false fun wl =>
  loadX (k0_off4 c (BitVec.ofNat 32 (1 + r.val))) (k0_off4_inb c r) fun xr => loadW true fun wr =>
  K fun b => bif b then prod xr wr else prod xl wl

/-- The eight lanes of a step, in the order the body takes them. -/
def lanes (f : Bool → Fin 4 → KProg F → KProg F) (K : KProg F) : KProg F :=
  f false 0 <| f true 0 <| f false 1 <| f true 1 <| f false 2 <| f true 2 <| f false 3 <| f true 3 K

/-- Store the first hop's sub-blocks, and send them. -/
def store0 (p : Bool → FVec F S256x4096 .f32) : KProg F → KProg F :=
  lanes fun b s K => storeSend b (slot 0 s) (pack (sub s (p b))) K
def send0 (c : Dev nD) : KProg F → KProg F := lanes fun b s K => sendTo b (slot 0 s) (dst b c) K

/-- A lane of step `h`: wait for the previous hop's sub-block, add the own one, send the sum on. -/
def stage (c : Dev nD) (h : ℕ) (p : Bool → FVec F S256x4096 .f32) (b : Bool) (s : Fin 4) (K : KProg F) : KProg F :=
  waitRecv b (slot (h + 1) s) <| loadSlot (recvM b) (slot (h + 1) s) fun r =>
  storeSend b (slot h s) (pack (comb s (p b) (unslot r))) <| sendTo b (slot h s) (dst b c) K

theorem inbOut (b : Bool) (s : Fin 4) : ∀ a, (![0, (bif b then 4096 else 0) + 1024 * s.val] : Fin 2 → Nat) a + S256x1024.size a ≤ S256x8192.size a := by
  revert b s; decide
/-- The columns of the result lane `(b, s)` computes. -/
abbrev outR (b : Bool) (s : Fin 4) : Rect S256x8192 :=
  Rect.unit (s := S256x8192) ![0, (bif b then 4096 else 0) + 1024 * s.val] S256x1024.size (inbOut b s)
/-- A lane of the last step: the sum is the total; scale it and store it to the result. -/
def stageOut (a : F .f32) (p : Bool → FVec F S256x4096 .f32) (b : Bool) (s : Fin 4) (K : KProg F) : KProg F :=
  waitRecv b (slot 14 s) <| loadSlot (recvM b) (slot 14 s) fun r =>
  .op (.load oM (outR b s).toLoadRect (View.loadsAt_vmem h_S256x1024)) fun _ =>
  .op (.store oM (outR b s) (fin a (comb s (p b) (unslot r))) Finset.univ (View.stores_vmem_bits_univ h_S256x1024 rfl) (.inl rfl)) fun _ => K

/-- Wait for the copies of the hop before the last out of their slots. -/
def drain (h : ℕ) : KProg F → KProg F := lanes fun b s K => waitSend b (slot h s) K
def takeCredits (K : KProg F) : KProg F := waitUnits (credS false) 1#32 <| waitUnits (credS true) 1#32 K
def giveCredits (c : Dev nD) (K : KProg F) : KProg F := signal (dst true c) (credS false) <| signal (dst false c) (credS true) K

/-- Step `h`, `2 ≤ h ≤ 13`, at `r = h - 1`. -/
def stepMid (c : Dev nD) (r : Fin 15) (K : KProg F) : KProg F :=
  parts c r fun p => drain (r.val + 1) <| takeCredits <| lanes (stage c (r.val + 1) p) <| giveCredits c K
/-- `n` such steps up to and including step 13. -/
def mids (c : Dev nD) : (n : ℕ) → n ≤ 12 → KProg F → KProg F
  | 0, _, K => K
  | n + 1, hn, K => stepMid c ⟨12 - n, by omega⟩ (mids c n (by omega) K)

/-- The end: every copy has left its slot, and both neighbours are done. -/
def closing (c : Dev nD) : KProg F :=
  drain 13 <| drain 14 <|
  signal (dst false c) cc0_scoped0.sem <| signal (dst true c) cc0_scoped0.sem <| waitUnits cc0_scoped0.sem 2#32 <| .ret ⟨⟩

/-- The scale: the product of the two scalars. -/
def loadAlpha (K : F .f32 → KProg F) : KProg F :=
  smemLoadElt (Memref.whole cc0_stg2_0) (Rect.unit (s := S1) ![0] S1.size inb_S1_S1_0) (View.loads_smem_one rfl numel1_S1) (Shape.Idx.first (numel1_S1.symm ▸ Nat.one_pos)) fun a =>
  smemLoadElt (Memref.whole cc0_stg3_0) (Rect.unit (s := S1) ![0] S1.size inb_S1_S1_0) (View.loads_smem_one rfl numel1_S1) (Shape.Idx.first (numel1_S1.symm ▸ Nat.one_pos)) fun e =>
  K (Scalar.mulf a e)

/-- The body on device `c`. -/
def body (c : Dev nD) : KProg F :=
  casts <| parts0 c fun p0 => store0 p0 <|
  signal (dst false c) barrier0 <| signal (dst true c) barrier0 <| waitUnits barrier0 2#32 <|
  send0 c <| loadAlpha fun a =>
  (parts c 0 fun p => lanes (stage c 1 p) <| giveCredits c <|
  mids c 12 le_rfl <|
  (parts c 13 fun p => drain 12 <| takeCredits <| lanes (stage c 14 p) <|
  (parts c 14 fun p => lanes (stageOut a p) <| closing c)))

set_option maxRecDepth 100000 in
set_option maxHeartbeats 4000000 in
theorem body_eq : bodyAt0 (F := F) t0_0 = .op .deviceId fun c => body c := rfl

end Cert.Proof

end
-- ==== Proof.Cells.lean ====
/-
  The cells of the protocol and what each of them hands over.

  A lane is one of the eight (ring, sub-block) pairs, in the order the body takes them; its hops
  alternate between two slots, so a slot is a lane and a parity. Per device there are a send and a
  receive cell for every slot, a flow-control cell per ring, the runtime's barrier cell and the
  closing cell. What is handed over:

  * a send cell, round `n`: the send slot back (any contents), when the copy has left it;
  * a receive cell, round `n`: the receive slot holding the running sum of hop `2 n + parity`;
  * a flow-control cell and the barrier cell: which receive slots of the ring's next device have been
    released, and how far its receive cells have got — facts, no ownership (`relAll`);
  * the closing cell: nothing.

  The receive slots themselves are passed from the reader back to the writer through the release
  library's invariants: write `n` of a slot (hop `h` is write `h / 2 + 1`) needs release `n`.
-/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.Release

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

/-! ## Lanes, parities, neighbours -/

/-- The ring of lane `i`, and its sub-block. -/
def lb (i : Fin 8) : Bool := i.val % 2 == 1
def ls (i : Fin 8) : Fin 4 := ⟨i.val / 2, by omega⟩

theorem lanes_eq (f : Bool → Fin 4 → KProg F → KProg F) (K : KProg F) :
    lanes f K = f (lb 0) (ls 0) (f (lb 1) (ls 1) (f (lb 2) (ls 2) (f (lb 3) (ls 3)
      (f (lb 4) (ls 4) (f (lb 5) (ls 5) (f (lb 6) (ls 6) (f (lb 7) (ls 7) K))))))) := rfl

/-- The parity of a hop. -/
def par (h : ℕ) : Fin 2 := ⟨h % 2, Nat.mod_lt _ (by decide)⟩
theorem slot_par (h : ℕ) (s : Fin 4) : slot h s = slot (par h).val s := Fin.ext (by simp [slot, par])
theorem par_two (h : ℕ) : par (h + 2) = par h := Fin.ext (by simp [par])
theorem slot_two (h : ℕ) (s : Fin 4) : slot (h + 2) s = slot h s := by rw [slot_par, par_two, ← slot_par]

theorem dst_false (c : Dev nD) : (dst false c).val = (c.val + 15) % 16 := k0_dev1_eq c
theorem dst_true (c : Dev nD) : (dst true c).val = (c.val + 1) % 16 := k0_dev2_eq c
theorem dst_dst (b : Bool) (c : Dev nD) : dst b (dst (!b) c) = c := by
  have hc : c.val < 16 := c.isLt
  cases b
  · apply Fin.ext; rw [dst_false]; show ((dst true c).val + 15) % 16 = _; rw [dst_true]; omega
  · apply Fin.ext; rw [dst_true]; show ((dst false c).val + 1) % 16 = _; rw [dst_false]; omega
theorem dst_dst' (b : Bool) (c : Dev nD) : dst (!b) (dst b c) = c := by
  have := dst_dst (!b) c; rwa [Bool.not_not] at this

/-! ## The resource algebra -/

/-- A slot's key: the device, the lane, the parity. -/
abbrev Key : Type := Dev nD × Fin 8 × Fin 2
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev EX : Emb (UB × USlots Key) (MT nD τ sig ℕ (Elt F) ℕ UU ℕ) := embR
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

/-! ## The cells -/

/-- A device's cells: `inl (false, i, p)` and `inl (true, i, p)` the send and the receive cell of a slot,
    `inr (inl b)` ring `b`'s flow control, `inr (inr false)` the barrier, `inr (inr true)` the closing one. -/
abbrev CK : Type := (Bool × Fin 8 × Fin 2) ⊕ (Bool ⊕ Bool)

def csem : CK → SemLoc sig
  | .inl (false, i, p) => .dma (ssem (lb i) (slot p.val (ls i)))
  | .inl (true, i, p) => .dma (rsem (lb i) (slot p.val (ls i)))
  | .inr (.inl b) => .reg (credS b)
  | .inr (.inr false) => .reg barrier0
  | .inr (.inr true) => .reg cc0_scoped0.sem

/-- The number of a cell's semaphore, regular ones after the others. -/
def cnum : CK → ℕ
  | .inl (false, i, p) => (ssem (lb i) (slot p.val (ls i))).val
  | .inl (true, i, p) => (rsem (lb i) (slot p.val (ls i))).val
  | .inr (.inl b) => 100 + (credS b).val
  | .inr (.inr false) => 100 + (barrier0 : Sem sig).val
  | .inr (.inr true) => 100 + (cc0_scoped0.sem : Sem sig).val

set_option maxRecDepth 20000 in
theorem csem_injective : Function.Injective csem := by
  have hn : ∀ k k', cnum k = cnum k' → k = k' := by decide
  have hl : ∀ k, cnum k = (match csem k with | .dma q => q.val | .reg s => 100 + s.val) := by decide
  exact fun k k' h => hn k k' (by rw [hl k, hl k', h])

/-- Which cell a semaphore is. -/
def dec : SemLoc sig → Option CK := Function.partialInv csem
theorem dec_csem (k : CK) : dec (csem k) = some k := Function.partialInv_left csem_injective k

abbrev kcell (c : Dev nD) (k : CK) : GSem nD τ sig := ((c : Thread nD τ), csem k)
/-- A lane's send and receive cell for hop `h`, the flow control, the barrier, the closing cell. -/
abbrev sC (i : Fin 8) (h : ℕ) (c : Dev nD) : GSem nD τ sig := kcell c (.inl (false, i, par h))
abbrev rC (i : Fin 8) (h : ℕ) (c : Dev nD) : GSem nD τ sig := kcell c (.inl (true, i, par h))
abbrev cC (b : Bool) (c : Dev nD) : GSem nD τ sig := kcell c (.inr (.inl b))
abbrev bC (c : Dev nD) : GSem nD τ sig := kcell c (.inr (.inr false))
abbrev zC (c : Dev nD) : GSem nD τ sig := kcell c (.inr (.inr true))

/-- What a copy credits. -/
def N : ℕ := (slotV (recvM false) 0).view.dmaCredit
theorem credit_send (b : Bool) (k : Fin 8) : (slotV (sendM b) k).view.dmaCredit = N := by cases b <;> rfl
theorem credit_recv (b : Bool) (k : Fin 8) : (slotV (recvM b) k).view.dmaCredit = N := by cases b <;> rfl
theorem N_pos : 0 < N := View.dmaCredit_pos _ (by decide)

/-! ## Slots -/

/-- A slot's elements in its buffer. -/
abbrev slotSet (M : Memref sig .tc .vmem S8x256x1024 .bf16) (k : Fin 8) : Finset M.view.ty.shape.Idx := (slotV M k).view.set

theorem slotSet_nonempty (M : Memref sig .tc .vmem S8x256x1024 .bf16) (k : Fin 8) : (slotSet M k).Nonempty := by
  rw [slotSet, View.set]
  exact Finset.map_nonempty.mpr ⟨fun a => ⟨0, by revert a; decide⟩, Finset.mem_univ _⟩

theorem slotSet_eq (M : Memref sig .tc .vmem S8x256x1024 .bf16) (k : Fin 8) : slotSet M k = (M.view.slice (slotR k)).set :=
  View.set_reshape _ _
theorem slotSet_load (M : Memref sig .tc .vmem S8x256x1024 .bf16) (k : Fin 8) : M.view.setOn (slotR k).set ⊆ slotSet M k := by
  rw [slotSet_eq]; exact (View.set_slice M.view (slotR k)).ge
theorem slotSet_store (M : Memref sig .tc .vmem S8x256x1024 .bf16) (k : Fin 8) : (M.access (slotR k)).setOn Finset.univ ⊆ slotSet M k := by
  rw [slotSet_eq]; exact subset_rfl

/-- A slot held outright, contents unknown; -/
abbrev slotOwn (M : Memref sig .tc .vmem S8x256x1024 .bf16) (k : Fin 8) (c : Dev nD) : sProp 𝕄 :=
  Release.slot ((slotV M k).view.loc (c : Thread nD τ)) (slotSet M k)
/-- and holding `v`. -/
def slotIs (M : Memref sig .tc .vmem S8x256x1024 .bf16) (k : Fin 8) (c : Dev nD) (v : Vec F S256x1024 .bf16) : sProp 𝕄 :=
  iprop(∃ f, ⌜(slotV M k).view.read (Elt F) f = v⌝ ∗ (slotV M k).view.loc (c : Thread nD τ) ↦[slotSet M k]{fullShare} f)

instance slotIs_storable (M : Memref sig .tc .vmem S8x256x1024 .bf16) (k : Fin 8) (c : Dev nD) (v : Vec F S256x1024 .bf16) :
    BI.Storable (upEmb : UEmb _ 𝕄) (slotIs M k c v) := by unfold slotIs; infer_instance

theorem slotIs_own (M : Memref sig .tc .vmem S8x256x1024 .bf16) (k : Fin 8) (c : Dev nD) (v : Vec F S256x1024 .bf16) :
    slotIs M k c v ⊢ slotOwn M k c := by
  unfold slotIs slotOwn Release.slot
  iintro ⟨%f, -, H⟩; iexists f; iexact H

end Cert.Proof

end
-- ==== Proof.Sched.lean ====
/-
  What travels around the rings, and the schedule of the cells' rounds.

  `total b h c s` is the running sum device `c` has for sub-block `s` of ring `b` after hop `h`: its own
  partial product for that hop's rows plus what the previous device sent in the hop before; `cont` is
  what a copy of it in bf16 lands as. Both are over the two cast operands `X`, `Wt` of every device.
-/
module

public import proofs.«01_k».proof.Proof.Cells
public import Mathlib.Algebra.BigOperators.Intervals
public import Mathlib.Tactic.Abel

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))

/-! ## Contents -/

/-- A block of rows of `x` as the body loads it, half the columns of `w`. -/
abbrev rdX (x : (cc0_scratch0 : Ref sig .tc).ty.Contents (Elt F)) (off : Fin 2 → ℕ) (inb : ∀ a, off a + S256x256.size a ≤ S4096x256.size a) :
    Vec F S256x256 .bf16 :=
  xM.view.readAt (Elt F) (Rect.unit (s := S4096x256) off S256x256.size inb).toLoadRect x
abbrev rdW (w : (cc0_scratch1 : Ref sig .tc).ty.Contents (Elt F)) (b : Bool) : Vec F S256x4096 .bf16 :=
  wM.view.readAt (Elt F) (Rect.unit (s := S256x8192) ![0, bif b then 4096 else 0] S256x4096.size (inbHalf b)).toLoadRect w

/-- Device `c`'s two partial products for hop `h`. -/
def part (c : Dev nD) : ℕ → Bool → FVec F S256x4096 .f32
  | 0 => fun b => bif b then prod (rdX (X c) (k0_off2 c) (k0_off2_inb c)) (rdW (Wt c) true)
      else prod (rdX (X c) (k0_off1 c) (k0_off1_inb c)) (rdW (Wt c) false)
  | h + 1 => fun b =>
      if hh : h < 15 then
        (bif b then prod (rdX (X c) (k0_off4 c (BitVec.ofNat 32 (1 + h))) (k0_off4_inb c ⟨h, hh⟩)) (rdW (Wt c) true)
          else prod (rdX (X c) (k0_off3 c (BitVec.ofNat 32 (1 + h))) (k0_off3_inb c ⟨h, hh⟩)) (rdW (Wt c) false))
      else prod (rdX (X c) (k0_off1 c) (k0_off1_inb c)) (rdW (Wt c) b)

/-- The running sum after hop `h`. -/
def total (b : Bool) : ℕ → Dev nD → Fin 4 → FVec F S256x1024 .f32
  | 0, c, s => sub s (part X Wt c 0 b)
  | h + 1, c, s => comb s (part X Wt c (h + 1) b) (unslot (pack (total b h (dst (!b) c) s)))

/-- What lands in a slot. -/
def cont (b : Bool) (h : ℕ) (c : Dev nD) (s : Fin 4) : Vec F S256x1024 .bf16 := unslot (pack (total X Wt b h c s))

theorem total_succ (b : Bool) (h : ℕ) (c : Dev nD) (s : Fin 4) :
    total X Wt b (h + 1) c s = comb s (part X Wt c (h + 1) b) (cont X Wt b h (dst (!b) c) s) := rfl

/-! ## What is handed over -/

/-- Device `e`'s lane `i` is ready for hop `h`'s landing: its slot has been released `h / 2 + 1` times, and its
    receive cell has got to round `h / 2`. -/
def grant (i : Fin 8) (e : Dev nD) (h : ℕ) : sProp 𝕄 :=
  iprop(released ES (e, i, par h) (1 + h / 2) ∗ reached ER (rC i h e) (h / 2))
instance grant_persistent (i : Fin 8) (e : Dev nD) (h : ℕ) : BI.Persistent (grant (F := F) i e h) := by unfold grant; infer_instance
instance grant_storable (i : Fin 8) (e : Dev nD) (h : ℕ) : BI.Storable (upEmb : UEmb _ 𝕄) (grant (F := F) i e h) := by
  unfold grant; infer_instance

theorem grant_two (i : Fin 8) (e : Dev nD) (h : ℕ) : grant (F := F) i e (h + 2) ⊢ grant i e h := by
  unfold grant rC
  rw [par_two, show (h + 2) / 2 = h / 2 + 1 by omega]
  exact BI.sep_mono (released_mono ES (by omega)) (reached_mono ER (by omega))

/-- The lanes of ring `b`. -/
def lanesOf (b : Bool) : Finset (Fin 8) := Finset.univ.filter fun i => lb i = b
/-- Every lane of ring `b` on device `e` is ready for hops `h` and `h + 1`. -/
def relAll (b : Bool) (e : Dev nD) (h : ℕ) : sProp 𝕄 :=
  bigSep (lanesOf b) fun i => iprop(grant i e h ∗ grant i e (h + 1))
instance relAll_persistent (b : Bool) (e : Dev nD) (h : ℕ) : BI.Persistent (relAll (F := F) b e h) := by unfold relAll; infer_instance
instance relAll_storable (b : Bool) (e : Dev nD) (h : ℕ) : BI.Storable (upEmb : UEmb _ 𝕄) (relAll (F := F) b e h) := by
  unfold relAll; infer_instance

theorem grants_succ (i : Fin 8) (e : Dev nD) (h : ℕ) :
    iprop(grant (F := F) i e (h + 1) ∗ grant i e (h + 1 + 1)) ⊢ iprop(grant i e h ∗ grant i e (h + 1)) := by
  iintro ⟨#H1, #H2⟩
  isplitr
  · iapply grant_two; iexact H2
  · iexact H1
theorem relAll_succ (b : Bool) (e : Dev nD) (h : ℕ) : relAll (F := F) b e (h + 1) ⊢ relAll b e h := by
  unfold relAll
  exact bigSep_mono fun i _ => grants_succ i e h
theorem relAll_mono (b : Bool) (e : Dev nD) {h h' : ℕ} (hh : h ≤ h') : relAll (F := F) b e h' ⊢ relAll b e h := by
  induction hh with
  | refl => exact BI.Entails.refl _
  | step _ ih => exact (relAll_succ b e _).trans ih

/-! ## The schedule -/

/-- The hop of round `r` of a slot of parity `p`. -/
abbrev hopAt (p : Fin 2) (r : ℕ) : ℕ := 2 * r + p.val
theorem hopAt_par (h : ℕ) : hopAt (par h) (h / 2) = h := by simp only [hopAt, par]; omega

def dutiesK : CK → ℕ → Finset ℕ
  | .inl (_, _, p), r => if hopAt p r ≤ 14 then {0} else ∅
  | .inr (.inl _), r => if r = 0 then Finset.range 13 else ∅
  | .inr (.inr _), r => if r = 0 then Finset.range 2 else ∅
def amountK : CK → ℕ
  | .inl _ => N
  | .inr _ => 1
def payK (c : Dev nD) : CK → ℕ → ℕ → sProp 𝕄
  | .inl (false, i, p), _, _ => slotOwn (sendM (lb i)) (slot p.val (ls i)) c
  | .inl (true, i, p), r, _ => slotIs (recvM (lb i)) (slot p.val (ls i)) c (cont X Wt (lb i) (hopAt p r) (dst (!lb i) c) (ls i))
  | .inr (.inl b), _, d => relAll b (dst b c) (d + 1)
  | .inr (.inr false), _, d => relAll (d == 1) (dst (d == 1) c) 0
  | .inr (.inr true), _, _ => iprop(emp)

theorem amountK_pos (k : CK) : 0 < amountK k := by rcases k with _ | _; exacts [N_pos, Nat.one_pos]

instance payK_storable (c : Dev nD) (k : CK) (r d : ℕ) : BI.Storable (upEmb : UEmb _ 𝕄) (payK X Wt c k r d) := by
  rcases k with ⟨_ | _, i, p⟩ | b | _ | _ <;> (dsimp only [payK]; infer_instance)

def Rd : Rounds.Schedule (GSem nD τ sig) ℕ 𝕄 where
  duties g r := if g.1.2 = .tc then (match dec g.2 with | some k => dutiesK k r | none => ∅) else ∅
  unitless _ := False
  amount g _ _ := match dec g.2 with | some k => amountK k | none => 1
  payload g r d := match dec g.2 with | some k => payK X Wt g.1.1 k r d | none => iprop(emp)
  amount_pos g _ _ _ := by
    cases h : dec g.2
    · exact Nat.one_pos
    · exact amountK_pos _

instance Rd_payload_storable (g : GSem nD τ sig) (r d : ℕ) : BI.Storable (upEmb : UEmb _ 𝕄) ((Rd X Wt).payload g r d) := by
  show BI.Storable upEmb (match dec g.2 with | some k => payK X Wt g.1.1 k r d | none => iprop(emp))
  split <;> infer_instance

theorem duties_k (c : Dev nD) (k : CK) (r : ℕ) : (Rd X Wt).duties (kcell c k) r = dutiesK k r := by
  dsimp only [Rd, kcell]; rw [if_pos rfl, dec_csem]
theorem amount_k (c : Dev nD) (k : CK) (r d : ℕ) : (Rd X Wt).amount (kcell c k) r d = amountK k := by
  dsimp only [Rd, kcell]; rw [dec_csem]
theorem payload_k (c : Dev nD) (k : CK) (r d : ℕ) : (Rd X Wt).payload (kcell c k) r d = payK X Wt c k r d := by
  dsimp only [Rd, kcell]; rw [dec_csem]
theorem expect_k (c : Dev nD) (k : CK) (r : ℕ) : (Rd X Wt).expect (kcell c k) r = (dutiesK k r).card * amountK k := by
  unfold Schedule.expect Schedule.amountOf
  rw [duties_k, Finset.sum_congr rfl fun d _ => amount_k X Wt c k r d, Finset.sum_const, smul_eq_mul]

theorem dutiesK_hop (b : Bool) (i : Fin 8) {h : ℕ} (hh : h ≤ 14) : dutiesK (.inl (b, i, par h)) (h / 2) = {0} := by
  dsimp only [dutiesK]; rw [hopAt_par, if_pos hh]
theorem duties_hop (c : Dev nD) (b : Bool) (i : Fin 8) {h : ℕ} (hh : h ≤ 14) :
    (Rd X Wt).duties (kcell c (.inl (b, i, par h))) (h / 2) = {0} := by rw [duties_k, dutiesK_hop b i hh]
theorem expect_hop (c : Dev nD) (b : Bool) (i : Fin 8) {h : ℕ} (hh : h ≤ 14) :
    (Rd X Wt).expect (kcell c (.inl (b, i, par h))) (h / 2) = N := by
  rw [expect_k, dutiesK_hop b i hh, Finset.card_singleton, Nat.one_mul]; rfl
theorem duties_end (c : Dev nD) (k : CK) (r : ℕ) (hr : match k with | .inl (_, _, p) => 15 ≤ hopAt p r | .inr _ => 1 ≤ r) :
    ∀ r', r ≤ r' → (Rd X Wt).duties (kcell c k) r' = ∅ := by
  intro r' h'
  rw [duties_k]
  rcases k with ⟨_, _, p⟩ | b | b
  · dsimp only [dutiesK]; rw [if_neg]; simp only [hopAt] at hr ⊢; omega
  all_goals dsimp only [dutiesK]; rw [if_neg]; simp only at hr; omega

/-- The rest of a hop's round: its one payload. -/
theorem rest_hop (c : Dev nD) (b : Bool) (i : Fin 8) {h : ℕ} (hh : h ≤ 14) :
    bigSep ((Rd X Wt).duties (kcell c (.inl (b, i, par h))) (h / 2) \ ∅) (fun d => (Rd X Wt).payload (kcell c (.inl (b, i, par h))) (h / 2) d)
      = payK X Wt c (.inl (b, i, par h)) (h / 2) 0 := by
  rw [Finset.sdiff_empty, duties_hop X Wt c b i hh, bigSep_singleton, payload_k]

theorem payK_send (c : Dev nD) (i : Fin 8) (h r d : ℕ) :
    payK X Wt c (.inl (false, i, par h)) r d = slotOwn (sendM (lb i)) (slot h (ls i)) c := by
  rw [slot_par h]; rfl
theorem payK_recv (c : Dev nD) (i : Fin 8) (h d : ℕ) :
    payK X Wt c (.inl (true, i, par h)) (h / 2) d
      = slotIs (recvM (lb i)) (slot h (ls i)) c (cont X Wt (lb i) h (dst (!lb i) c) (ls i)) := by
  rw [slot_par h]; dsimp only [payK]; rw [hopAt_par]

theorem csem_send (i : Fin 8) (h : ℕ) : csem (.inl (false, i, par h)) = .dma (ssem (lb i) (slot h (ls i))) := by rw [slot_par h]; rfl
theorem csem_recv (i : Fin 8) (h : ℕ) : csem (.inl (true, i, par h)) = .dma (rsem (lb i) (slot h (ls i))) := by rw [slot_par h]; rfl

/-! ## What a device owes, and the levels -/

/-- The index — and level — under which hop `h`'s landing is owed, and the flow-control unit of step `j + 1`. -/
abbrev ixHop (h : ℕ) : ℕ := 2 * h + 2
abbrev ixCred (j : ℕ) : ℕ := 2 * j + 5

/-- The `n`-th send: hop `n / 8`, lane `n % 8`. -/
def lane (n : ℕ) : Fin 8 := ⟨n % 8, Nat.mod_lt _ (by decide)⟩
def owedSend (c : Dev nD) (n : ℕ) : CellTallies nD τ sig ℕ :=
  tallyAt (rC (lane n) (n / 8) (dst (lb (lane n)) c)) (ixHop (n / 8)) N
def owedCred (c : Dev nD) (b : Bool) (j : ℕ) : CellTallies nD τ sig ℕ := tallyAt (cC b (dst (!b) c)) (ixCred j) 1

/-- What is owed from the `n`-th send and the `j`-th step's flow control on. -/
def owed (c : Dev nD) (n j : ℕ) : CellTallies nD τ sig ℕ :=
  (∑ k ∈ Finset.Ico n 120, owedSend c k) + (∑ k ∈ Finset.Ico j 13, (owedCred c true k + owedCred c false k))
/-- The closing units, the second of them and both. -/
def owedEnd1 (c : Dev nD) : CellTallies nD τ sig ℕ := tallyAt (zC (dst true c)) 100 1
def owedEnd (c : Dev nD) : CellTallies nD τ sig ℕ := owedEnd1 c + tallyAt (zC (dst false c)) 100 1
/-- What is owed between the barrier and the closing, -/
def ow (c : Dev nD) (n j : ℕ) : CellTallies nD τ sig ℕ := owedEnd c + owed c n j
/-- and at launch. -/
def O₁ (c : Dev nD) : CellTallies nD τ sig ℕ := ow c 0 0 + tallyAt (bC (dst true c)) 1 1
def O₀ (c : Dev nD) : CellTallies nD τ sig ℕ := O₁ c + tallyAt (bC (dst false c)) 1 1

theorem ow_send (c : Dev nD) {n : ℕ} (hn : n < 120) (j : ℕ) : ow c n j = ow c (n + 1) j + owedSend c n := by
  unfold ow owed; rw [Finset.sum_eq_sum_Ico_succ_bot hn]; abel
theorem ow_cred (c : Dev nD) (n : ℕ) {j : ℕ} (hj : j < 13) :
    ow c n j = (ow c n (j + 1) + owedCred c true j) + owedCred c false j := by
  unfold ow owed; rw [Finset.sum_eq_sum_Ico_succ_bot hj]; abel
theorem ow_end (c : Dev nD) {n j : ℕ} (hn : 120 ≤ n) (hj : 13 ≤ j) : ow c n j = owedEnd c := by
  unfold ow owed; rw [Finset.Ico_eq_empty (by omega), Finset.Ico_eq_empty (by omega)]; simp

def L (g : GSem nD τ sig) : Finset ℕ := if g.1.2 = .tc then Finset.range 200 else ∅
def lv (_ : GSem nD τ sig) (ι : ℕ) : ℕ := ι
theorem L_of_ne (g : GSem nD τ sig) (h : g.1.2 ≠ .tc) : L g = ∅ := if_neg h

/-- Everything in `O` is owed to TensorCore cells at indices above `ι`. -/
def Above (ι : ℕ) (O : CellTallies nD τ sig ℕ) : Prop := ∀ g i, 0 < O g i → g.1.2 = .tc ∧ ι < i ∧ i < 200

theorem above_zero (ι : ℕ) : Above ι 0 := fun g i h => absurd h (lt_irrefl 0)
theorem above_add {ι : ℕ} {O D : CellTallies nD τ sig ℕ} (hO : Above ι O) (hD : Above ι D) : Above ι (O + D) := fun g i h => by
  rw [Pi.add_apply, Finsupp.add_apply] at h
  rcases Nat.eq_zero_or_pos (O g i) with h0 | h0
  · exact hD g i (by omega)
  · exact hO g i h0
theorem above_sum {ι : ℕ} {A : Type} [DecidableEq A] (s : Finset A) (O : A → CellTallies nD τ sig ℕ) (h : ∀ a ∈ s, Above ι (O a)) :
    Above ι (∑ a ∈ s, O a) := by
  induction s using Finset.induction_on with
  | empty => rw [Finset.sum_empty]; exact above_zero ι
  | insert a s ha ih =>
    rw [Finset.sum_insert ha]
    exact above_add (h a (Finset.mem_insert_self _ _)) (ih fun b hb => h b (Finset.mem_insert_of_mem hb))
theorem above_tally {ι : ℕ} (c : Dev nD) (k : CK) (i n : ℕ) (h : ι < i) (h' : i < 200) : Above ι (tallyAt (kcell c k) i n) := fun g j hg => by
  rw [tallyAt_apply] at hg
  by_cases hgj : g = kcell c k ∧ j = i
  · rw [hgj.1, hgj.2]; exact ⟨rfl, h, h'⟩
  · rw [if_neg hgj] at hg; exact absurd hg (lt_irrefl 0)

theorem above_ow (c : Dev nD) (n j ι : ℕ) (hn : ι < 2 * (n / 8) + 2) (hj : ι < 2 * j + 5) (hι : ι < 100) : Above ι (ow c n j) := by
  unfold ow owedEnd owedEnd1 owed
  refine above_add (above_add (above_tally _ _ _ _ hι (by decide)) (above_tally _ _ _ _ hι (by decide))) (above_add ?_ ?_)
  · refine above_sum _ _ fun k hk => above_tally _ _ _ _ ?_ ?_
    all_goals have := Finset.mem_Ico.mp hk; simp only [ixHop]; omega
  · refine above_sum _ _ fun k hk => above_add (above_tally _ _ _ _ ?_ ?_) (above_tally _ _ _ _ ?_ ?_)
    all_goals have := Finset.mem_Ico.mp hk; simp only [ixCred]; omega
theorem above_O₀ (c : Dev nD) : Above 0 (O₀ c) :=
  above_add (above_add (above_ow c 0 0 0 (by decide) (by decide) (by decide)) (above_tally _ _ _ _ (by decide) (by decide)))
    (above_tally _ _ _ _ (by decide) (by decide))

theorem mayWait_above (c : Dev nD) (sm : SemLoc sig) {ι : ℕ} {O : CellTallies nD τ sig ℕ} (h : Above ι O) (hι : ι < 200) :
    (levAts L lv : sProp 𝕄) ⊢ MayWait (c : Thread nD τ) sm ι O :=
  MayOwe.of_cut (L := L) (lev := lv) ι
    (fun p hp => by rw [Finset.mem_singleton.mp hp]; unfold L; rw [if_pos rfl]; exact Finset.mem_range.mpr hι)
    (fun g u hg => by unfold L; rw [if_pos (h g u hg).1]; exact Finset.mem_range.mpr (h g u hg).2.2)
    (fun p hp => by rw [Finset.mem_singleton.mp hp]; exact le_rfl)
    (fun g u hg => (h g u hg).2.1)

end Cert.Proof

end
-- ==== Proof.Lane.lean ====
/-
  One rule per effect of the body: storing to a send slot, sending it, the two DMA waits, the
  flow-control waits and the signals, each stated with what it takes and leaves.
-/
module

public import proofs.«01_k».proof.Proof.Sched

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (K : Dev nD × CK → ℕ) (κ : Key → ℕ)

abbrev 𝒱₀ : Variants := Variants.none

/-- A piece of the body run on device `c`. -/
abbrev WP (c : Dev nD) (p : KProg F) (Q : PUnit → sProp 𝕄) : sProp 𝕄 :=
  wp frame (wpE (defs₀ (F := F)) 𝒱₀ (c : Thread nD τ) none) Set.univ p Q

/-- What everyone knows: the cells' invariants, the slots', the levels, that every cell has got to round 0. -/
def ctx : sProp 𝕄 :=
  iprop((bigSep Finset.univ fun x : Dev nD × CK => cellInv ER (Rd X Wt) (K x) (kcell x.1 x.2))
    ∗ (bigSep Finset.univ fun k : Key => slotInv ES (κ k) k (slotOwn (recvM (lb k.2.1)) (slot k.2.2.val (ls k.2.1)) k.1))
    ∗ levAts L lv
    ∗ bigSep Finset.univ fun x : Dev nD × CK => reached ER (kcell x.1 x.2) 0)
instance ctx_persistent : BI.Persistent (ctx X Wt K κ) := by unfold ctx; infer_instance

theorem ctx_cell (c : Dev nD) (k : CK) : ctx X Wt K κ ⊢ cellInv ER (Rd X Wt) (K (c, k)) (kcell c k) := by
  have h : (bigSep Finset.univ fun x : Dev nD × CK => cellInv ER (Rd X Wt) (K x) (kcell x.1 x.2))
      ⊢ (cellInv ER (Rd X Wt) (K (c, k)) (kcell c k) : sProp 𝕄) := bigSep_elim (Finset.mem_univ (c, k))
  unfold ctx
  iintro ⟨#H, -, -, -⟩
  iapply h; iexact H
theorem ctx_slot (c : Dev nD) (i : Fin 8) (p : Fin 2) :
    ctx X Wt K κ ⊢ slotInv ES (κ (c, i, p)) (c, i, p) (slotOwn (recvM (lb i)) (slot p.val (ls i)) c) := by
  have h : (bigSep Finset.univ fun k : Key => slotInv ES (κ k) k (slotOwn (recvM (lb k.2.1)) (slot k.2.2.val (ls k.2.1)) k.1))
      ⊢ (slotInv ES (κ (c, i, p)) (c, i, p) (slotOwn (recvM (lb i)) (slot p.val (ls i)) c) : sProp 𝕄) := bigSep_elim (Finset.mem_univ (c, i, p))
  unfold ctx
  iintro ⟨-, #H, -, -⟩
  iapply h; iexact H
theorem ctx_reached (c : Dev nD) (k : CK) : ctx X Wt K κ ⊢ reached ER (kcell c k) 0 := by
  have h : (bigSep Finset.univ fun x : Dev nD × CK => reached ER (kcell x.1 x.2) 0) ⊢ (reached ER (kcell c k) 0 : sProp 𝕄) :=
    bigSep_elim (Finset.mem_univ (c, k))
  unfold ctx
  iintro ⟨-, -, -, #H⟩
  iapply h; iexact H

theorem ctx_wait (c : Dev nD) (sm : SemLoc sig) {ι : ℕ} {O : CellTallies nD τ sig ℕ} (h : Above ι O) (hι : ι < 200) :
    ctx X Wt K κ ⊢ MayWait (c : Thread nD τ) sm ι O := by
  have hm : (levAts L lv : sProp 𝕄) ⊢ MayWait (c : Thread nD τ) sm ι O := mayWait_above c sm h hι
  unfold ctx
  iintro ⟨-, -, #H, -⟩
  iapply hm; iexact H

/-- What the core owes, whatever waits it has recorded. -/
def owesE (c : Dev nD) (O : CellTallies nD τ sig ℕ) : sProp 𝕄 := iprop(∃ W, owes (c : Thread nD τ) O W)

/-! ## Slots -/

theorem read_stored (M : Memref sig .tc .vmem S8x256x1024 .bf16) (k : Fin 8) (f : (slotV M k).view.ty.Contents (Elt F)) (v : FVec F S1x256x1024 .bf16) :
    (slotV M k).view.read (Elt F) ((M.access (slotR k)).write (Elt F) f v Finset.univ) = unslot v := by
  show shapeCast S256x1024 ((M.access (slotR k)).read (Elt F) ((M.access (slotR k)).write (Elt F) f v Finset.univ)) _ = _
  rw [View.read_write_univ]; rfl

/-- Storing to a send slot. -/
theorem wp_storeSend (c : Dev nD) (b : Bool) (k : Fin 8) (v : FVec F S1x256x1024 .bf16) (P : KProg F) (Q : PUnit → sProp 𝕄) :
    slotOwn (sendM b) k c ⊢ iprop((slotIs (sendM b) k c (unslot v) -∗ WP c P Q) -∗ WP c (storeSend b k v P) Q) := by
  unfold slotOwn Release.slot storeSend loadSlot
  iintro ⟨%f, Hs⟩ Hk
  iapply (wp_load 𝒱₀ (c : Thread nD τ) none Set.univ (m := sendM b) (slotSet_load _ k)) $$ Hs; iintro Hs
  iapply (wp_store 𝒱₀ (c : Thread nD τ) none Set.univ (m := sendM b) (r := slotR k) (Mk := Finset.univ) (slotSet_store _ k)) $$ Hs; iintro Hs
  iapply Hk
  unfold slotIs
  iexists _
  isplitr
  · ipureintro; exact read_stored (sendM b) k f v
  · iexact Hs

/-- Loading a receive slot. -/
theorem wp_loadRecv (c : Dev nD) (b : Bool) (k : Fin 8) (v : Vec F S256x1024 .bf16) (P : Vec F S1x256x1024 .bf16 → KProg F) (Q : PUnit → sProp 𝕄) :
    slotIs (recvM b) k c v
      ⊢ iprop((∀ r, (⌜unslot r = v⌝ ∗ slotOwn (recvM b) k c) -∗ WP c (P r) Q) -∗ WP c (loadSlot (recvM b) k P) Q) := by
  unfold slotOwn Release.slot slotIs loadSlot
  iintro ⟨%f, %hf, Hs⟩ Hk
  iapply (wp_load 𝒱₀ (c : Thread nD τ) none Set.univ (m := recvM b) (slotSet_load _ k)) $$ Hs; iintro Hs
  iapply Hk $$ %_
  isplitr
  · ipureintro; exact hf
  · iexists f; iexact Hs

/-! ## A copy -/

/-- Round `r` of lane `i`'s slot of parity `p`: the send slot goes with the copy, the landing hands the
    running sum of that hop to the neighbour. -/
theorem wp_sendTo (c : Dev nD) (i : Fin 8) (p : Fin 2) (r : ℕ) (hr : hopAt p r ≤ 14) (ι : ℕ) (O : CellTallies nD τ sig ℕ) (P : KProg F) (Q : PUnit → sProp 𝕄) :
    iprop(ctx X Wt K κ ∗ slotIs (sendM (lb i)) (slot p.val (ls i)) c (cont X Wt (lb i) (hopAt p r) c (ls i))
        ∗ slotOwn (recvM (lb i)) (slot p.val (ls i)) (dst (lb i) c)
        ∗ owesE c (O + tallyAt (kcell (dst (lb i) c) (.inl (true, i, p))) ι N)
        ∗ dutyTok ER (kcell c (.inl (false, i, p))) r 0 ∗ reached ER (kcell c (.inl (false, i, p))) r
        ∗ dutyTok ER (kcell (dst (lb i) c) (.inl (true, i, p))) r 0 ∗ reached ER (kcell (dst (lb i) c) (.inl (true, i, p))) r)
      ⊢ iprop(((cred (tallyAt (kcell c (.inl (false, i, p))) 0 N) ∗ owesE c O) -∗ WP c P Q)
          -∗ WP c (sendTo (lb i) (slot p.val (ls i)) (dst (lb i) c) P) Q) := by
  have hd (b : Bool) (e : Dev nD) : 0 ∈ (Rd X Wt).duties (kcell e (.inl (b, i, p))) r := by
    rw [duties_k]; dsimp only [dutiesK]; rw [if_pos hr]; exact Finset.mem_singleton_self _
  unfold slotIs slotOwn Release.slot owesE sendTo
  iintro ⟨#Hctx, ⟨%fs, %hfs, Hsrc⟩, ⟨%fd, Hdst⟩, ⟨%W, HO⟩, Ht1, #Hr1, Ht2, #Hr2⟩ Hk
  iapply (Rounds.wp_send_pointsTo 𝒱₀ ER (Rd X Wt) (c : Thread nD τ) none (c' := (dst (lb i) c : Thread nD τ))
      (κ₁ := K (c, .inl (false, i, p))) (κ₂ := K (dst (lb i) c, .inl (true, i, p)))
      (r₁ := r) (r₂ := r) (d₁ := 0) (d₂ := 0) (fs := fs) (fd := fd) (q := fullShare) (hd false c) (hd true (dst (lb i) c)) ι 0 N (credit_recv _ _)
      (amount_k X Wt c (.inl (false, i, p)) r 0) (amount_k X Wt (dst (lb i) c) (.inl (true, i, p)) r 0) O rfl (W := W)
      (by
        rw [payload_k]
        dsimp only [payK]; unfold slotOwn Release.slot
        iintro H; iexists fs; iexact H)
      (by
        rw [payload_k]
        dsimp only [payK]; unfold slotIs
        rw [dst_dst']
        iintro H; iexists _
        isplitr
        · ipureintro; exact (View.read_write_univ fd _).trans hfs
        · iexact H)) $$ [Hsrc Hdst HO Ht1 Ht2]
  · isplitr; · iapply (ctx_cell X Wt K κ c (.inl (false, i, p))); iexact Hctx
    isplitr; · iapply (ctx_cell X Wt K κ (dst (lb i) c) (.inl (true, i, p))); iexact Hctx
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## Waits -/

/-- The rest of round `r` of an own cell, by a DMA wait. -/
theorem wp_waitDma (c : Dev nD) (k : CK) (q : DmaSem sig) (hq : csem k = .dma q) (r : ℕ) (ι : ℕ) (hι : ι < 200) (O : CellTallies nD τ sig ℕ) (hO : Above ι O)
    {src dst : Memref sig .tc .vmem S256x1024 .bf16} {hsrc : src.view.WordExact} {hdst : dst.view.WordExact}
    (hN : dst.view.dmaCredit = (Rd X Wt).expect (kcell c k) r) (P : PUnit → KProg F) (Q : PUnit → sProp 𝕄) :
    iprop(ctx X Wt K κ ∗ cred (tallyAt (kcell c k) ι dst.view.dmaCredit) ∗ owesE c O ∗ atPos ER (kcell c k) r ∅ 0)
      ⊢ iprop(((owesE c O ∗ atPos ER (kcell c k) (r + 1) ∅ 0 ∗ reached ER (kcell c k) (r + 1)
            ∗ bigSep ((Rd X Wt).duties (kcell c k) r \ ∅) (fun d => (Rd X Wt).payload (kcell c k) r d)) -∗ WP c (P ⟨⟩) Q)
          -∗ WP c (.op (.waitDma2 q src dst hsrc hdst) P) Q) := by
  have hi := ctx_cell X Wt K κ c k
  have hl := ctx_wait X Wt K κ c (.dma q) hO hι
  dsimp only [kcell] at hi hN ⊢
  rw [hq] at hi hN ⊢
  unfold owesE
  iintro ⟨#Hctx, Hc, ⟨%W, HO⟩, Hat⟩ Hk
  iapply (Rounds.wp_wait_rest_token 𝒱₀ ER (Rd X Wt) (c : Thread nD τ) none (κ := K (c, k))
      (wpE_waitDma2_eq 𝒱₀ (c : Thread nD τ) none Set.univ) (Set.mem_univ _) ι (O := O) (W := W) (R := r) (m := 0) (T := ∅)
      (by rw [Nat.zero_add]; exact hN)) $$ [Hc HO Hat]
  · isplitr; · iapply hi; iexact Hctx
    isplitl [Hc]; · iexact Hc
    isplitl [HO]; · iexact HO
    isplitr; · iapply hl; iexact Hctx
    iexact Hat
  iintro ⟨HO, Hat, Hr, Hpay⟩
  iapply Hk
  isplitl [HO]; · iexists _; iexact HO
  isplitl [Hat]; · iexact Hat
  isplitl [Hr]; · iexact Hr
  iexact Hpay

/-- Hop `h`'s copy out of its slot is over: the slot is back. -/
theorem wp_waitSend (c : Dev nD) (i : Fin 8) (h : ℕ) (hh : h ≤ 14) (O : CellTallies nD τ sig ℕ) (hO : Above 0 O) (P : KProg F) (Q : PUnit → sProp 𝕄) :
    iprop(ctx X Wt K κ ∗ cred (tallyAt (sC i h c) 0 N) ∗ owesE c O ∗ atPos ER (sC i h c) (h / 2) ∅ 0)
      ⊢ iprop(((owesE c O ∗ atPos ER (sC i h c) (h / 2 + 1) ∅ 0 ∗ reached ER (sC i h c) (h / 2 + 1) ∗ slotOwn (sendM (lb i)) (slot h (ls i)) c) -∗ WP c P Q)
          -∗ WP c (waitSend (lb i) (slot h (ls i)) P) Q) := by
  have hp := Entails.of_eq ((rest_hop X Wt c false i hh).trans (payK_send X Wt c i h _ _))
  have hw := wp_waitDma X Wt K κ c (.inl (false, i, par h)) _ (csem_send i h) (h / 2) 0 (by decide) O hO
    (src := slotV (recvM (lb i)) (slot h (ls i))) (dst := slotV (sendM (lb i)) (slot h (ls i)))
    (hsrc := ((recvM_whole (lb i)).wordExact_slice rfl _ (words8 (slot h (ls i)))).reshape _ _)
    (hdst := ((sendM_whole (lb i)).wordExact_slice rfl _ (words8 (slot h (ls i)))).reshape _ _)
    ((credit_send (lb i) (slot h (ls i))).trans (expect_hop X Wt c false i hh).symm) (fun _ => P) Q
  rw [credit_send] at hw
  unfold waitSend
  iintro H Hk
  iapply hw $$ H
  iintro ⟨HO, Hat, Hr, Hpay⟩
  iapply Hk
  isplitl [HO]; · iexact HO
  isplitl [Hat]; · iexact Hat
  isplitl [Hr]; · iexact Hr
  iapply hp; iexact Hpay

/-- Hop `h`'s landing: the slot with the previous device's running sum. -/
theorem wp_waitRecv (c : Dev nD) (i : Fin 8) (h : ℕ) (hh : h ≤ 14) (O : CellTallies nD τ sig ℕ) (hO : Above (ixHop h) O) (P : KProg F) (Q : PUnit → sProp 𝕄) :
    iprop(ctx X Wt K κ ∗ cred (tallyAt (rC i h c) (ixHop h) N) ∗ owesE c O ∗ atPos ER (rC i h c) (h / 2) ∅ 0)
      ⊢ iprop(((owesE c O ∗ atPos ER (rC i h c) (h / 2 + 1) ∅ 0 ∗ reached ER (rC i h c) (h / 2 + 1)
            ∗ slotIs (recvM (lb i)) (slot h (ls i)) c (cont X Wt (lb i) h (dst (!lb i) c) (ls i))) -∗ WP c P Q)
          -∗ WP c (waitRecv (lb i) (slot h (ls i)) P) Q) := by
  have hp := Entails.of_eq ((rest_hop X Wt c true i hh).trans (payK_recv X Wt c i h _))
  have hw := wp_waitDma X Wt K κ c (.inl (true, i, par h)) _ (csem_recv i h) (h / 2) (ixHop h) (by simp only [ixHop]; omega) O hO
    (src := slotV (sendM (lb i)) (slot h (ls i))) (dst := slotV (recvM (lb i)) (slot h (ls i)))
    (hsrc := ((sendM_whole (lb i)).wordExact_slice rfl _ (words8 (slot h (ls i)))).reshape _ _)
    (hdst := ((recvM_whole (lb i)).wordExact_slice rfl _ (words8 (slot h (ls i)))).reshape _ _)
    ((credit_recv (lb i) (slot h (ls i))).trans (expect_hop X Wt c true i hh).symm) (fun _ => P) Q
  rw [credit_recv] at hw
  unfold waitRecv
  iintro H Hk
  iapply hw $$ H
  iintro ⟨HO, Hat, Hr, Hpay⟩
  iapply Hk
  isplitl [HO]; · iexact HO
  isplitl [Hat]; · iexact Hat
  isplitl [Hr]; · iexact Hr
  iapply hp; iexact Hpay

/-- The two units of the barrier or of the closing cell. -/
theorem wp_waitTwo (c : Dev nD) (b : Bool) (σ : Sem sig) (hσ : csem (.inr (.inr b)) = .reg σ) (ι : ℕ) (hι : ι < 200) (O : CellTallies nD τ sig ℕ) (hO : Above ι O)
    (P : KProg F) (Q : PUnit → sProp 𝕄) :
    iprop(ctx X Wt K κ ∗ cred (tallyAt (kcell c (.inr (.inr b))) ι 2) ∗ owesE c O ∗ atPos ER (kcell c (.inr (.inr b))) 0 ∅ 0)
      ⊢ iprop(((owesE c O ∗ atPos ER (kcell c (.inr (.inr b))) 1 ∅ 0 ∗ payK X Wt c (.inr (.inr b)) 0 0 ∗ payK X Wt c (.inr (.inr b)) 0 1) -∗ WP c P Q)
          -∗ WP c (waitUnits σ 2#32 P) Q) := by
  have hi := ctx_cell X Wt K κ c (.inr (.inr b))
  have hl := ctx_wait X Wt K κ c (.reg σ) hO hι
  have he := expect_k X Wt c (.inr (.inr b)) 0
  have hp : bigSep ((Rd X Wt).duties (kcell c (.inr (.inr b))) 0 \ ∅) (fun d => (Rd X Wt).payload (kcell c (.inr (.inr b))) 0 d)
      = iprop(payK X Wt c (.inr (.inr b)) 0 0 ∗ payK X Wt c (.inr (.inr b)) 0 1) := by
    rw [Finset.sdiff_empty, duties_k, show dutiesK (.inr (.inr b)) 0 = {0, 1} by cases b <;> decide, bigSep_insert (by decide), bigSep_singleton,
      payload_k, payload_k]; rfl
  replace hp := Entails.of_eq hp
  dsimp only [kcell] at hi he hp ⊢
  rw [hσ] at hi he hp ⊢
  unfold owesE waitUnits
  iintro ⟨#Hctx, Hc, ⟨%W, HO⟩, Hat⟩ Hk
  iapply (Rounds.wp_wait_rest_token 𝒱₀ ER (Rd X Wt) (c : Thread nD τ) none (κ := K (c, .inr (.inr b)))
      (wpE_semWait_eq 𝒱₀ (c : Thread nD τ) none Set.univ) (Set.mem_univ _) ι (O := O) (W := W) (R := 0) (m := 0) (T := ∅)
      (by rw [he]; cases b <;> decide)) $$ [Hc HO Hat]
  · isplitr; · iapply hi; iexact Hctx
    isplitl [Hc]; · iexact Hc
    isplitl [HO]; · iexact HO
    isplitr; · iapply hl; iexact Hctx
    iexact Hat
  iintro ⟨HO, Hat, -, Hpay⟩
  iapply Hk
  isplitl [HO]; · iexists _; iexact HO
  isplitl [Hat]; · iexact Hat
  iapply hp; iexact Hpay

/-! ## Signals -/

/-- One unit to a regular cell of device `e`, with what its duty `d` hands over. -/
theorem wp_signal (c e : Dev nD) (x : Bool ⊕ Bool) (σ : Sem sig) (hσ : csem (.inr x) = .reg σ) (d : ℕ) (hd : d ∈ dutiesK (.inr x) 0)
    (ι : ℕ) (O : CellTallies nD τ sig ℕ) (P : KProg F) (Q : PUnit → sProp 𝕄) :
    iprop(ctx X Wt K κ ∗ owesE c (O + tallyAt (kcell e (.inr x)) ι 1) ∗ dutyTok ER (kcell e (.inr x)) 0 d ∗ payK X Wt e (.inr x) 0 d
        ∗ reached ER (kcell e (.inr x)) 0)
      ⊢ iprop((owesE c O -∗ WP c P Q) -∗ WP c (signal e σ P) Q) := by
  have hi := ctx_cell X Wt K κ e (.inr x)
  have hd' : d ∈ (Rd X Wt).duties (kcell e (.inr x)) 0 := by rw [duties_k]; exact hd
  have ha : (Rd X Wt).amount (kcell e (.inr x)) 0 d = 1 := amount_k X Wt e (.inr x) 0 d
  have hp := (payload_k X Wt e (.inr x) 0 d).symm
  rw [hp]
  dsimp only [kcell] at hi hd' ha ⊢
  rw [hσ] at hi hd' ha ⊢
  unfold owesE Cert.Proof.signal
  iintro ⟨#Hctx, ⟨%W, HO⟩, Ht, Hp, #Hr⟩ Hk
  iapply (Rounds.wp_signal 𝒱₀ ER (Rd X Wt) (c : Thread nD τ) none (dst := (e : Thread nD τ)) (κ := K (e, .inr x))
      (d := d) hd' (ha.trans (by decide)) ι O rfl) $$ [HO Ht Hp]
  · isplitr; · iapply hi; iexact Hctx
    isplitl [HO]; · iexact HO
    isplitl [Ht]; · iexact Ht
    isplitl [Hp]; · iexact Hp
    iexact Hr
  iintro HO
  iapply Hk; iexists W; iexact HO

/-! ## Flow control -/

/-- Ring `b`'s flow-control cell after `m` units: of the duties that have come in, at least `m`, everything
    they said. -/
def crS (c : Dev nD) (b : Bool) (m : ℕ) : sProp 𝕄 :=
  iprop(∃ T : Finset ℕ, ⌜T ⊆ Finset.range 13 ∧ m ≤ T.card⌝ ∗ atPos ER (cC b c) 0 T m ∗ bigSep T fun j => relAll b (dst b c) (j + 1))

theorem exists_ge {S : Finset ℕ} {m : ℕ} (h : m + 1 ≤ S.card) : ∃ j ∈ S, m ≤ j := by
  by_contra hn
  push Not at hn
  have : S ⊆ Finset.range m := fun j hj => Finset.mem_range.mpr (hn j hj)
  have := Finset.card_le_card this
  rw [Finset.card_range] at this; omega

theorem pay_cred (c : Dev nD) (b : Bool) (S : Finset ℕ) :
    bigSep S (fun d => (Rd X Wt).payload (cC b c) 0 d) = bigSep S fun j => relAll b (dst b c) (j + 1) :=
  bigSep_congr fun j _ => payload_k X Wt c (.inr (.inl b)) 0 j

/-- The `m`-th unit, not the last: the neighbour's lanes are ready for hop `m + 2`. -/
theorem wp_takeCredit (c : Dev nD) (b : Bool) (m : ℕ) (hm : m ≤ 11) (ι : ℕ) (hι : ι < 200) (O : CellTallies nD τ sig ℕ) (hO : Above ι O)
    (P : KProg F) (Q : PUnit → sProp 𝕄) :
    iprop(ctx X Wt K κ ∗ cred (tallyAt (cC b c) ι 1) ∗ owesE c O ∗ crS c b m)
      ⊢ iprop(((owesE c O ∗ crS c b (m + 1) ∗ relAll b (dst b c) (m + 1)) -∗ WP c P Q) -∗ WP c (waitUnits (credS b) 1#32 P) Q) := by
  have hi := ctx_cell X Wt K κ c (.inr (.inl b))
  have hl := ctx_wait X Wt K κ c (.reg (credS b)) hO hι
  have he : (Rd X Wt).expect (cC b c) 0 = 13 := (expect_k X Wt c (.inr (.inl b)) 0).trans (by cases b <;> decide)
  have hdu : (Rd X Wt).duties (cC b c) 0 = Finset.range 13 := duties_k X Wt c (.inr (.inl b)) 0
  unfold owesE crS waitUnits
  iintro ⟨#Hctx, Hc, ⟨%W, HO⟩, ⟨%T, %hT, Hat, #HT⟩⟩ Hk
  iapply (Rounds.wp_wait 𝒱₀ ER (Rd X Wt) (c : Thread nD τ) none (κ := K (c, .inr (.inl b)))
      (wpE_semWait_eq 𝒱₀ (c : Thread nD τ) none Set.univ) (Set.mem_univ _) (cr := Finsupp.single ι 1) (O := O) (W := W) {(SemLoc.reg (credS b), ι)} (R := 0) (m := m) (T := T)
      (by rw [Util.total_single]; decide) (image_single_subset _ ι 1)) $$ [Hc HO Hat]
  · isplitr; · iapply hi; iexact Hctx
    isplitl [Hc]; · iexact Hc
    isplitl [HO]; · iexact HO
    isplitr; · iapply hl; iexact Hctx
    iexact Hat
  iintro %S ⟨%hS, HO, Hat, Hpay⟩
  obtain ⟨hTS, hSd, hle⟩ := hS
  have hSd' : S ⊆ Finset.range 13 := hdu ▸ hSd
  have hcard : m + 1 ≤ S.card := by
    have h1 : m + 1 + ((Rd X Wt).duties (cC b c) 0 \ S).card ≤ (Rd X Wt).expect (cC b c) 0 := hle
    rw [he, hdu, Finset.card_sdiff_of_subset hSd', Finset.card_range] at h1
    have := Finset.card_le_card hSd'
    rw [Finset.card_range] at this; omega
  obtain ⟨j, hj, hmj⟩ := exists_ge hcard
  have hjoin : iprop((bigSep T fun j => relAll (F := F) b (dst b c) (j + 1)) ∗ bigSep (S \ T) fun j => relAll b (dst b c) (j + 1))
      ⊢ bigSep S fun j => relAll b (dst b c) (j + 1) := Entails.of_eq (bigSep_sdiff_split hTS).symm
  have hget : (bigSep S fun j => relAll (F := F) b (dst b c) (j + 1)) ⊢ relAll b (dst b c) (m + 1) :=
    (bigSep_elim hj).trans (relAll_mono b _ (by omega))
  have hp : bigSep (S \ T) (fun d => (Rd X Wt).payload ((c : Thread nD τ), SemLoc.reg (credS b)) 0 d) ⊢ bigSep (S \ T) fun j => relAll (F := F) b (dst b c) (j + 1) :=
    Entails.of_eq (pay_cred X Wt c b (S \ T))
  ihave Hall := hjoin $$ [Hpay]
  · isplitr; · iexact HT
    iapply hp; iexact Hpay
  icases Hall with #Hall
  iapply Hk
  isplitl [HO]; · iexists _; iexact HO
  isplitl [Hat]
  · iexists S
    isplitr; · ipureintro; exact ⟨hSd', hcard⟩
    isplitl [Hat]; · iexact Hat
    iexact Hall
  iapply hget; iexact Hall

/-- The last unit closes the round. -/
theorem wp_takeCredit_last (c : Dev nD) (b : Bool) (ι : ℕ) (hι : ι < 200) (O : CellTallies nD τ sig ℕ) (hO : Above ι O) (P : KProg F) (Q : PUnit → sProp 𝕄) :
    iprop(ctx X Wt K κ ∗ cred (tallyAt (cC b c) ι 1) ∗ owesE c O ∗ crS c b 12)
      ⊢ iprop(((owesE c O ∗ atPos ER (cC b c) 1 ∅ 0 ∗ relAll b (dst b c) 13) -∗ WP c P Q) -∗ WP c (waitUnits (credS b) 1#32 P) Q) := by
  have hi := ctx_cell X Wt K κ c (.inr (.inl b))
  have hl := ctx_wait X Wt K κ c (.reg (credS b)) hO hι
  have he : (Rd X Wt).expect (cC b c) 0 = 13 := (expect_k X Wt c (.inr (.inl b)) 0).trans (by cases b <;> decide)
  have hdu : (Rd X Wt).duties (cC b c) 0 = Finset.range 13 := duties_k X Wt c (.inr (.inl b)) 0
  unfold owesE crS waitUnits
  iintro ⟨#Hctx, Hc, ⟨%W, HO⟩, ⟨%T, %hT, Hat, #HT⟩⟩ Hk
  iapply (Rounds.wp_wait_rest_token 𝒱₀ ER (Rd X Wt) (c : Thread nD τ) none (κ := K (c, .inr (.inl b)))
      (wpE_semWait_eq 𝒱₀ (c : Thread nD τ) none Set.univ) (Set.mem_univ _) ι (O := O) (W := W) (R := 0) (m := 12) (T := T)
      (by rw [show (Rd X Wt).expect ((c : Thread nD τ), SemLoc.reg (credS b)) 0 = 13 from he]; decide)) $$ [Hc HO Hat]
  · isplitr; · iapply hi; iexact Hctx
    isplitl [Hc]; · iexact Hc
    isplitl [HO]; · iexact HO
    isplitr; · iapply hl; iexact Hctx
    iexact Hat
  iintro ⟨HO, Hat, -, Hpay⟩
  have hjoin : iprop((bigSep T fun j => relAll (F := F) b (dst b c) (j + 1)) ∗ bigSep ((Rd X Wt).duties (cC b c) 0 \ T) fun j => (Rd X Wt).payload (cC b c) 0 j)
      ⊢ relAll b (dst b c) 13 := by
    rw [pay_cred X Wt c b, hdu]
    exact (Entails.of_eq (bigSep_sdiff_split hT.1).symm).trans (bigSep_elim (Finset.mem_range.mpr (by decide : 12 < 13)))
  iapply Hk
  isplitl [HO]; · iexists _; iexact HO
  isplitl [Hat]; · iexact Hat
  iapply hjoin
  isplitr; · iexact HT
  iexact Hpay

end Cert.Proof

end
-- ==== Proof.Steps.lean ====
/-
  The steps of the body. Lane by lane, a step takes the previous hop's landing, adds the own partial
  product and sends the sum on; around the lanes are the waits for earlier copies out of their slots
  and the flow control. `wp_mids` runs the twelve middle steps by induction on their number.
-/
module

public import proofs.«01_k».proof.Proof.Lane
public import Idealize.SL.ProofMode.BigOp
public import Idealize.SL.BI.BigOpNat

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (K : Dev nD × CK → ℕ) (κ : Key → ℕ)

/-- Of every lane. -/
abbrev all (P : Fin 8 → sProp 𝕄) : sProp 𝕄 := bigSep Finset.univ P

theorem all_eq (P : Fin 8 → sProp 𝕄) :
    all P = iprop(P 0 ∗ P 1 ∗ P 2 ∗ P 3 ∗ P 4 ∗ P 5 ∗ P 6 ∗ P 7) := by
  show bigSep Finset.univ P = _
  rw [bigSep_univ_eq_bigSepL [0, 1, 2, 3, 4, 5, 6, 7] (by decide) (by decide)]; rfl

/-- What a lane does, done by every lane in turn; `I n` is what passes from lane to lane. -/
theorem lanes_rule (c : Dev nD) (f : Bool → Fin 4 → KProg F → KProg F) (P R : Fin 8 → sProp 𝕄) (I : ℕ → sProp 𝕄) (Q : PUnit → sProp 𝕄)
    (h : ∀ (i : Fin 8) (k : KProg F), iprop(P i ∗ I i.val) ⊢ iprop(((R i ∗ I (i.val + 1)) -∗ WP c k Q) -∗ WP c (f (lb i) (ls i) k) Q)) (k : KProg F) :
    iprop(all P ∗ I 0) ⊢ iprop(((all R ∗ I 8) -∗ WP c k Q) -∗ WP c (lanes f k) Q) := by
  rw [all_eq, all_eq, lanes_eq]
  have h0 (k : KProg F) : iprop(P 0 ∗ I 0) ⊢ iprop(((R 0 ∗ I 1) -∗ WP c k Q) -∗ WP c (f (lb 0) (ls 0) k) Q) := h 0 k
  have h1 (k : KProg F) : iprop(P 1 ∗ I 1) ⊢ iprop(((R 1 ∗ I 2) -∗ WP c k Q) -∗ WP c (f (lb 1) (ls 1) k) Q) := h 1 k
  have h2 (k : KProg F) : iprop(P 2 ∗ I 2) ⊢ iprop(((R 2 ∗ I 3) -∗ WP c k Q) -∗ WP c (f (lb 2) (ls 2) k) Q) := h 2 k
  have h3 (k : KProg F) : iprop(P 3 ∗ I 3) ⊢ iprop(((R 3 ∗ I 4) -∗ WP c k Q) -∗ WP c (f (lb 3) (ls 3) k) Q) := h 3 k
  have h4 (k : KProg F) : iprop(P 4 ∗ I 4) ⊢ iprop(((R 4 ∗ I 5) -∗ WP c k Q) -∗ WP c (f (lb 4) (ls 4) k) Q) := h 4 k
  have h5 (k : KProg F) : iprop(P 5 ∗ I 5) ⊢ iprop(((R 5 ∗ I 6) -∗ WP c k Q) -∗ WP c (f (lb 5) (ls 5) k) Q) := h 5 k
  have h6 (k : KProg F) : iprop(P 6 ∗ I 6) ⊢ iprop(((R 6 ∗ I 7) -∗ WP c k Q) -∗ WP c (f (lb 6) (ls 6) k) Q) := h 6 k
  have h7 (k : KProg F) : iprop(P 7 ∗ I 7) ⊢ iprop(((R 7 ∗ I 8) -∗ WP c k Q) -∗ WP c (f (lb 7) (ls 7) k) Q) := h 7 k
  iintro ⟨⟨P0, P1, P2, P3, P4, P5, P6, P7⟩, HI⟩ Hk
  iapply (h0 _) $$ [P0 HI]
  · isplitl [P0]; · iexact P0
    iexact HI
  iintro ⟨R0, HI⟩
  iapply (h1 _) $$ [P1 HI]
  · isplitl [P1]; · iexact P1
    iexact HI
  iintro ⟨R1, HI⟩
  iapply (h2 _) $$ [P2 HI]
  · isplitl [P2]; · iexact P2
    iexact HI
  iintro ⟨R2, HI⟩
  iapply (h3 _) $$ [P3 HI]
  · isplitl [P3]; · iexact P3
    iexact HI
  iintro ⟨R3, HI⟩
  iapply (h4 _) $$ [P4 HI]
  · isplitl [P4]; · iexact P4
    iexact HI
  iintro ⟨R4, HI⟩
  iapply (h5 _) $$ [P5 HI]
  · isplitl [P5]; · iexact P5
    iexact HI
  iintro ⟨R5, HI⟩
  iapply (h6 _) $$ [P6 HI]
  · isplitl [P6]; · iexact P6
    iexact HI
  iintro ⟨R6, HI⟩
  iapply (h7 _) $$ [P7 HI]
  · isplitl [P7]; · iexact P7
    iexact HI
  iintro ⟨R7, HI⟩
  iapply Hk
  isplitr [HI]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  · iexact HI

/-! ## What a lane holds -/

/-- Lane `i`'s send slot of hop `h` is free, its cell at that hop's round; -/
def Free (c : Dev nD) (h : ℕ) (i : Fin 8) : sProp 𝕄 :=
  iprop(slotOwn (sendM (lb i)) (slot h (ls i)) c ∗ atPos ER (sC i h c) (h / 2) ∅ 0 ∗ reached ER (sC i h c) (h / 2))
/-- it holds that hop's running sum; -/
def Full (c : Dev nD) (h : ℕ) (i : Fin 8) : sProp 𝕄 :=
  iprop(slotIs (sendM (lb i)) (slot h (ls i)) c (cont X Wt (lb i) h c (ls i)) ∗ atPos ER (sC i h c) (h / 2) ∅ 0 ∗ reached ER (sC i h c) (h / 2))
/-- a copy is on its way out of it. -/
def Fly (c : Dev nD) (h : ℕ) (i : Fin 8) : sProp 𝕄 :=
  iprop(cred (tallyAt (sC i h c) 0 N) ∗ atPos ER (sC i h c) (h / 2) ∅ 0)
/-- The lane is ready to wait for hop `h`'s landing, -/
def Rdy (c : Dev nD) (h : ℕ) (i : Fin 8) : sProp 𝕄 :=
  iprop(atPos ER (rC i h c) (h / 2) ∅ 0 ∗ readerAt ES (c, i, par h) (1 + h / 2))
def Rcr (c : Dev nD) (h : ℕ) (i : Fin 8) : sProp 𝕄 := cred (tallyAt (rC i h c) (ixHop h) N)
/-- and has it. -/
def Got (c : Dev nD) (h : ℕ) (i : Fin 8) : sProp 𝕄 :=
  iprop(slotOwn (recvM (lb i)) (slot h (ls i)) c ∗ atPos ER (rC i h c) (h / 2 + 1) ∅ 0 ∗ reached ER (rC i h c) (h / 2 + 1)
    ∗ readerAt ES (c, i, par h) (1 + h / 2))
/-- The tokens hop `h`'s send spends. -/
def Pend (c : Dev nD) (h : ℕ) (i : Fin 8) : sProp 𝕄 :=
  iprop(dutyTok ER (sC i h c) (h / 2) 0 ∗ dutyTok ER (rC i h (dst (lb i) c)) (h / 2) 0 ∗ writeTok ES (dst (lb i) c, i, par h) (1 + h / 2))
/-- The neighbour's lane is ready for hop `h`. -/
abbrev WG (c : Dev nD) (h : ℕ) (i : Fin 8) : sProp 𝕄 := grant i (dst (lb i) c) h

/-! ## The lanes' operations -/

theorem wp_lane_store (c : Dev nD) (i : Fin 8) (h : ℕ) (v : FVec F S256x1024 .f32) (hv : v = total X Wt (lb i) h c (ls i)) (k : KProg F) (Q : PUnit → sProp 𝕄) :
    Free c h i ⊢ iprop((Full X Wt c h i -∗ WP c k Q) -∗ WP c (storeSend (lb i) (slot h (ls i)) (pack v) k) Q) := by
  subst hv
  unfold Free Full
  iintro ⟨Hs, Hat, Hr⟩ Hk
  iapply (wp_storeSend c (lb i) (slot h (ls i)) _ k Q) $$ Hs
  iintro Hs
  iapply Hk
  isplitl [Hs]; · iexact Hs
  isplitl [Hat]; · iexact Hat
  iexact Hr

theorem wp_lane_send (c : Dev nD) (i : Fin 8) (h : ℕ) (hh : h ≤ 14) (j : ℕ) (k : KProg F) (Q : PUnit → sProp 𝕄) :
    iprop(ctx X Wt K κ ∗ Full X Wt c h i ∗ WG c h i ∗ Pend c h i ∗ owesE c (ow c (8 * h + i.val) j))
      ⊢ iprop(((Fly c h i ∗ owesE c (ow c (8 * h + (i.val + 1)) j)) -∗ WP c k Q) -∗ WP c (sendTo (lb i) (slot h (ls i)) (dst (lb i) c) k) Q) := by
  have hi := i.isLt
  have hn : ow c (8 * h + i.val) j = ow c (8 * h + (i.val + 1)) j + tallyAt (rC i h (dst (lb i) c)) (ixHop h) N := by
    have hl : lane (8 * h + i.val) = i := Fin.ext (by simp only [lane]; omega)
    rw [ow_send c (by omega : 8 * h + i.val < 120), owedSend, hl, show (8 * h + i.val) / 8 = h by omega]; rfl
  have hs := wp_sendTo X Wt K κ c i (par h) (h / 2) (by rw [hopAt_par]; exact hh) (ixHop h) (ow c (8 * h + (i.val + 1)) j) k Q
  rw [hopAt_par, ← slot_par h] at hs
  have ht := slot_take (S := slotOwn (F := F) (recvM (lb i)) (slot (par h).val (ls i)) (dst (lb i) c)) (ι := κ (dst (lb i) c, i, par h)) (k := (dst (lb i) c, i, par h)) ES
    (Set.mem_univ (κ (dst (lb i) c, i, par h))) (1 + h / 2)
  rw [← slot_par h] at ht
  have hc := ctx_slot X Wt K κ (dst (lb i) c) i (par h)
  rw [← slot_par h] at hc
  rw [hn]
  unfold Full WG grant Pend Fly
  iintro ⟨#Hctx, ⟨Hs, Hat, #Hr1⟩, ⟨#Hrel, #Hr2⟩, ⟨Ht1, Ht2, Hw⟩, HO⟩ Hk
  imod ht $$ [Hw] with Hd
  · isplitr; · iapply hc; iexact Hctx
    isplitr; · iexact Hrel
    iexact Hw
  iapply hs $$ [Hs Hd HO Ht1 Ht2]
  · isplitr; · iexact Hctx
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hc]; · iexact Hc
    iexact Hat
  iexact HO

theorem wp_lane_wait (c : Dev nD) (i : Fin 8) (h : ℕ) (hh : h ≤ 14) (O : CellTallies nD τ sig ℕ) (hO : Above (ixHop h) O)
    (P : Vec F S1x256x1024 .bf16 → KProg F) (Q : PUnit → sProp 𝕄) :
    iprop(ctx X Wt K κ ∗ Rdy c h i ∗ Rcr c h i ∗ owesE c O)
      ⊢ iprop((∀ r, (⌜unslot r = cont X Wt (lb i) h (dst (!lb i) c) (ls i)⌝ ∗ Got c h i ∗ owesE c O) -∗ WP c (P r) Q)
          -∗ WP c (waitRecv (lb i) (slot h (ls i)) (loadSlot (recvM (lb i)) (slot h (ls i)) P)) Q) := by
  unfold Rdy Rcr Got
  iintro ⟨#Hctx, ⟨Hat, Hrd⟩, Hc, HO⟩ Hk
  iapply (wp_waitRecv X Wt K κ c i h hh O hO _ Q) $$ [Hat Hc HO]
  · isplitr; · iexact Hctx
    isplitl [Hc]; · iexact Hc
    isplitl [HO]; · iexact HO
    iexact Hat
  iintro ⟨HO, Hat, Hr, Hs⟩
  iapply (wp_loadRecv c (lb i) (slot h (ls i)) _ P Q) $$ Hs
  iintro %r ⟨%hr, Hs⟩
  iapply Hk $$ %r
  isplitr; · ipureintro; exact hr
  isplitr [HO]
  · isplitl [Hs]; · iexact Hs
    isplitl [Hat]; · iexact Hat
    isplitl [Hr]; · iexact Hr
    iexact Hrd
  iexact HO

theorem wp_lane_drain (c : Dev nD) (i : Fin 8) (h : ℕ) (hh : h ≤ 14) (O : CellTallies nD τ sig ℕ) (hO : Above 0 O) (k : KProg F) (Q : PUnit → sProp 𝕄) :
    iprop(ctx X Wt K κ ∗ Fly c h i ∗ owesE c O)
      ⊢ iprop(((Free c (h + 2) i ∗ owesE c O) -∗ WP c k Q) -∗ WP c (waitSend (lb i) (slot h (ls i)) k) Q) := by
  unfold Fly Free sC
  rw [par_two, slot_two, show (h + 2) / 2 = h / 2 + 1 by omega]
  iintro ⟨#Hctx, ⟨Hc, Hat⟩, HO⟩ Hk
  iapply (wp_waitSend X Wt K κ c i h hh O hO k Q) $$ [Hat Hc HO]
  · isplitr; · iexact Hctx
    isplitl [Hc]; · iexact Hc
    isplitl [HO]; · iexact HO
    iexact Hat
  iintro ⟨HO, Hat, Hr, Hs⟩
  iapply Hk
  isplitr [HO]
  · isplitl [Hs]; · iexact Hs
    isplitl [Hat]; · iexact Hat
    iexact Hr
  iexact HO

/-- After a hop's landing has been read, its slot can be released for the hop after the next. -/
theorem lane_release (c : Dev nD) (h : ℕ) (i : Fin 8) :
    iprop(ctx X Wt K κ ∗ Got c h i) ⊢ (|={Set.univ}=> (Rdy c (h + 2) i ∗ grant i c (h + 2)) : sProp 𝕄) := by
  have ht := slot_release (S := slotOwn (F := F) (recvM (lb i)) (slot (par h).val (ls i)) c) (ι := κ (c, i, par h)) (k := (c, i, par h)) ES
    (Set.mem_univ (κ (c, i, par h))) (slot_slot_false (slotSet_nonempty _ _)) (1 + h / 2)
  have hc := ctx_slot X Wt K κ c i (par h)
  rw [← slot_par h] at ht hc
  unfold Got Rdy grant rC
  rw [par_two, show (h + 2) / 2 = h / 2 + 1 by omega, show 1 + (h / 2 + 1) = 1 + h / 2 + 1 by omega]
  iintro ⟨#Hctx, Hs, Hat, #Hr, Hrd⟩
  imod ht $$ [Hrd Hs] with ⟨Hrd, #Hrel⟩
  · isplitr; · iapply hc; iexact Hctx
    isplitl [Hrd]; · iexact Hrd
    iexact Hs
  imodintro
  isplitl [Hat Hrd]
  · isplitl [Hat]; · iexact Hat
    iexact Hrd
  isplitr; · iexact Hrel
  iexact Hr

theorem all_release (c : Dev nD) (h : ℕ) :
    iprop(ctx X Wt K κ ∗ all (Got c h)) ⊢ (|={Set.univ}=> (all (Rdy c (h + 2)) ∗ all fun i => grant i c (h + 2)) : sProp 𝕄) := by
  refine (bigSep_with_persistent fun i _ => lane_release X Wt K κ c h i).trans ((bigSep_fupd _ _).trans (BI.fupd_mono ?_))
  rw [bigSep_sep']

/-! ## The lanes of a step -/

theorem wp_drain (c : Dev nD) (h : ℕ) (hh : h ≤ 14) (O : CellTallies nD τ sig ℕ) (hO : Above 0 O) (k : KProg F) (Q : PUnit → sProp 𝕄) :
    iprop(ctx X Wt K κ ∗ all (Fly c h) ∗ owesE c O)
      ⊢ iprop(((all (Free c (h + 2)) ∗ owesE c O) -∗ WP c k Q) -∗ WP c (drain h k) Q) := by
  iintro ⟨#Hctx, Hf, HO⟩ Hk
  iapply (lanes_rule c (fun b s k => waitSend b (slot h s) k) (Fly c h) (Free c (h + 2)) (fun _ => iprop(ctx X Wt K κ ∗ owesE c O)) Q (fun i k => by
    iintro ⟨Hf, #Hctx, HO⟩ Hk
    iapply (wp_lane_drain X Wt K κ c i h hh O hO k Q) $$ [Hf HO]
    · isplitr; · iexact Hctx
      isplitl [Hf]; · iexact Hf
      iexact HO
    iintro ⟨Hf, HO⟩
    iapply Hk
    isplitl [Hf]; · iexact Hf
    isplitr; · iexact Hctx
    iexact HO) k) $$ [Hf HO]
  · isplitl [Hf]; · iexact Hf
    isplitr; · iexact Hctx
    iexact HO
  iintro ⟨Hf, -, HO⟩
  iapply Hk
  isplitl [Hf]; · iexact Hf
  iexact HO

theorem wp_store0 (c : Dev nD) (k : KProg F) (Q : PUnit → sProp 𝕄) :
    all (Free c 0) ⊢ iprop((all (Full X Wt c 0) -∗ WP c k Q) -∗ WP c (store0 (part X Wt c 0) k) Q) := by
  iintro Hf Hk
  iapply (lanes_rule c (fun b s k => storeSend b (slot 0 s) (pack (sub s (part X Wt c 0 b))) k) (Free c 0) (Full X Wt c 0) (fun _ => iprop(emp)) Q (fun i k => by
    iintro ⟨Hf, -⟩ Hk
    iapply (wp_lane_store X Wt c i 0 _ rfl k Q) $$ Hf
    iintro Hf
    iapply Hk
    isplitl [Hf]; · iexact Hf
    iempintro) k) $$ [Hf]
  · isplitl [Hf]; · iexact Hf
    iempintro
  iintro ⟨Hf, -⟩
  iapply Hk; iexact Hf

theorem wp_send0 (c : Dev nD) (j : ℕ) (k : KProg F) (Q : PUnit → sProp 𝕄) :
    iprop(ctx X Wt K κ ∗ all (WG c 0) ∗ all (Full X Wt c 0) ∗ all (Pend c 0) ∗ owesE c (ow c 0 j))
      ⊢ iprop(((all (Fly c 0) ∗ owesE c (ow c 8 j)) -∗ WP c k Q) -∗ WP c (send0 c k) Q) := by
  have hz : iprop(all (F := F) (WG c 0) ∗ all (Full X Wt c 0) ∗ all (Pend c 0)) ⊢ all fun i => iprop(WG c 0 i ∗ Full X Wt c 0 i ∗ Pend c 0 i) :=
    Entails.of_eq (by show _ = bigSep _ _; rw [bigSep_sep', bigSep_sep'])
  iintro ⟨#Hctx, Hw, Hf, Hp, HO⟩ Hk
  iapply (lanes_rule c (fun b s k => sendTo b (slot 0 s) (dst b c) k) (fun i => iprop(WG c 0 i ∗ Full X Wt c 0 i ∗ Pend c 0 i)) (Fly c 0)
      (fun n => iprop(ctx X Wt K κ ∗ owesE c (ow c (8 * 0 + n) j))) Q (fun i k => by
    iintro ⟨⟨Hw, Hf, Hp⟩, #Hctx, HO⟩ Hk
    iapply (wp_lane_send X Wt K κ c i 0 (by decide) j k Q) $$ [Hw Hf Hp HO]
    · isplitr; · iexact Hctx
      isplitl [Hf]; · iexact Hf
      isplitl [Hw]; · iexact Hw
      isplitl [Hp]; · iexact Hp
      iexact HO
    iintro ⟨Hf, HO⟩
    iapply Hk
    isplitl [Hf]; · iexact Hf
    isplitr; · iexact Hctx
    iexact HO) k) $$ [Hw Hf Hp HO]
  · isplitr [HO]
    · iapply hz
      isplitl [Hw]; · iexact Hw
      isplitl [Hf]; · iexact Hf
      iexact Hp
    isplitr; · iexact Hctx
    iexact HO
  iintro ⟨Hf, -, HO⟩
  iapply Hk
  isplitl [Hf]; · iexact Hf
  iexact HO

theorem wp_stages (c : Dev nD) (r : ℕ) (hr : r ≤ 13) (j : ℕ) (hj : r ≤ j) (k : KProg F) (Q : PUnit → sProp 𝕄) :
    iprop(ctx X Wt K κ ∗ all (WG c (r + 1)) ∗ all (Free c (r + 1)) ∗ all (Rdy c r) ∗ all (Rcr c r) ∗ all (Pend c (r + 1)) ∗ owesE c (ow c (8 * (r + 1)) j))
      ⊢ iprop(((all (Fly c (r + 1)) ∗ all (Got c r) ∗ owesE c (ow c (8 * (r + 2)) j)) -∗ WP c k Q)
          -∗ WP c (lanes (stage c (r + 1) (part X Wt c (r + 1))) k) Q) := by
  have hz : iprop(all (F := F) (WG c (r + 1)) ∗ all (Free c (r + 1)) ∗ all (Rdy c r) ∗ all (Rcr c r) ∗ all (Pend c (r + 1)))
      ⊢ all fun i => iprop(WG c (r + 1) i ∗ Free c (r + 1) i ∗ Rdy c r i ∗ Rcr c r i ∗ Pend c (r + 1) i) :=
    Entails.of_eq (by show _ = bigSep _ _; rw [bigSep_sep', bigSep_sep', bigSep_sep', bigSep_sep'])
  have hz' : all (F := F) (fun i => iprop(Fly c (r + 1) i ∗ Got c r i)) ⊢ iprop(all (Fly c (r + 1)) ∗ all (Got c r)) :=
    Entails.of_eq (by show bigSep _ _ = _; rw [bigSep_sep'])
  iintro ⟨#Hctx, Hw, Hf, Hy, Hc, Hp, HO⟩ Hk
  iapply (lanes_rule c (stage c (r + 1) (part X Wt c (r + 1)))
      (fun i => iprop(WG c (r + 1) i ∗ Free c (r + 1) i ∗ Rdy c r i ∗ Rcr c r i ∗ Pend c (r + 1) i)) (fun i => iprop(Fly c (r + 1) i ∗ Got c r i))
      (fun n => iprop(ctx X Wt K κ ∗ owesE c (ow c (8 * (r + 1) + n) j))) Q (fun i k => by
    have hi := i.isLt
    unfold stage
    rw [slot_two]
    iintro ⟨⟨Hw, Hf, Hy, Hc, Hp⟩, #Hctx, HO⟩ Hk
    have ha : Above (ixHop r) (ow c (8 * (r + 1) + i.val) j) := above_ow c _ _ _ (by simp only [ixHop]; omega) (by simp only [ixHop]; omega) (by simp only [ixHop]; omega)
    iapply (wp_lane_wait X Wt K κ c i r (by omega) _ ha _ Q) $$ [Hy Hc HO]
    · isplitr; · iexact Hctx
      isplitl [Hy]; · iexact Hy
      isplitl [Hc]; · iexact Hc
      iexact HO
    iintro %v ⟨%hv, Hg, HO⟩
    iapply (wp_lane_store X Wt c i (r + 1) _ (by rw [hv]; rfl) _ Q) $$ Hf
    iintro Hf
    iapply (wp_lane_send X Wt K κ c i (r + 1) (by omega) j k Q) $$ [Hw Hf Hp HO]
    · isplitr; · iexact Hctx
      isplitl [Hf]; · iexact Hf
      isplitl [Hw]; · iexact Hw
      isplitl [Hp]; · iexact Hp
      iexact HO
    iintro ⟨Hf, HO⟩
    iapply Hk
    isplitr [HO]
    · isplitl [Hf]; · iexact Hf
      iexact Hg
    isplitr; · iexact Hctx
    iexact HO) k) $$ [Hw Hf Hy Hc Hp HO]
  · isplitr [HO]
    · iapply hz
      isplitl [Hw]; · iexact Hw
      isplitl [Hf]; · iexact Hf
      isplitl [Hy]; · iexact Hy
      isplitl [Hc]; · iexact Hc
      iexact Hp
    isplitr; · iexact Hctx
    iexact HO
  iintro ⟨Hf, -, HO⟩
  ihave Hf := hz' $$ Hf
  icases Hf with ⟨Hf, Hg⟩
  iapply Hk
  isplitl [Hf]; · iexact Hf
  isplitl [Hg]; · iexact Hg
  iexact HO

/-! ## Flow control -/

/-- The tokens for the units of step `j + 1`, and the units received in step `j + 2`. -/
def Ctok (c : Dev nD) (j : ℕ) : sProp 𝕄 := iprop(dutyTok ER (cC false (dst true c)) 0 j ∗ dutyTok ER (cC true (dst false c)) 0 j)
def Ccr (c : Dev nD) (j : ℕ) : sProp 𝕄 := iprop(cred (tallyAt (cC false c) (ixCred j) 1) ∗ cred (tallyAt (cC true c) (ixCred j) 1))

/-- The own lanes' grants, as one ring's neighbour hears them. -/
theorem relAll_of (b : Bool) (c : Dev nD) (h : ℕ) :
    iprop((all fun i => grant (F := F) i c h) ∗ all fun i => grant i c (h + 1)) ⊢ relAll b c h := by
  unfold relAll
  rw [bigSep_sep']
  exact BI.sep_mono (bigSep_subset (Finset.subset_univ _)) (bigSep_subset (Finset.subset_univ _))

/-- What both rings' neighbours say, lane by lane. -/
theorem WG_of (c : Dev nD) (h : ℕ) :
    iprop(relAll false (dst false c) h ∗ relAll true (dst true c) h) ⊢ iprop(all (F := F) (WG c h) ∗ all (WG c (h + 1))) := by
  have e (b : Bool) : relAll (F := F) b (dst b c) h = bigSep (lanesOf b) fun i => iprop(WG c h i ∗ WG c (h + 1) i) := by
    unfold relAll
    exact bigSep_congr fun i hi => by rw [WG, WG, (Finset.mem_filter.mp hi).2]
  rw [e, e, ← bigSep_sep']
  refine Entails.of_eq ?_
  rw [show (Finset.univ : Finset (Fin 8)) = lanesOf false ∪ lanesOf true by decide, bigSep_union (by decide)]
  rfl

theorem wp_giveCredits (c : Dev nD) (n j : ℕ) (hj : j < 13) (k : KProg F) (Q : PUnit → sProp 𝕄) :
    iprop(ctx X Wt K κ ∗ (all fun i => grant i c (j + 1)) ∗ (all fun i => grant i c (j + 2)) ∗ Ctok c j ∗ owesE c (ow c n j))
      ⊢ iprop((owesE c (ow c n (j + 1)) -∗ WP c k Q) -∗ WP c (giveCredits c k) Q) := by
  have hf : iprop((all fun i => grant (F := F) i c (j + 1)) ∗ all fun i => grant i c (j + 2)) ⊢ payK X Wt (dst true c) (.inr (.inl false)) 0 j := by
    dsimp only [payK]; rw [show dst false (dst true c) = c from dst_dst false c]; exact relAll_of false c (j + 1)
  have ht : iprop((all fun i => grant (F := F) i c (j + 1)) ∗ all fun i => grant i c (j + 2)) ⊢ payK X Wt (dst false c) (.inr (.inl true)) 0 j := by
    dsimp only [payK]; rw [show dst true (dst false c) = c from dst_dst true c]; exact relAll_of true c (j + 1)
  rw [ow_cred c n hj]
  unfold owedCred Ctok giveCredits
  iintro ⟨#Hctx, #Hg1, #Hg2, ⟨Ht1, Ht2⟩, HO⟩ Hk
  iapply (wp_signal X Wt K κ c (dst true c) (.inl false) (credS false) rfl j (Finset.mem_range.mpr hj) (ixCred j) (ow c n (j + 1) + tallyAt (cC true (dst (!true) c)) (ixCred j) 1) _ Q) $$ [Ht1 HO]
  · isplitr; · iexact Hctx
    isplitl [HO]; · iexact HO
    isplitl [Ht1]; · iexact Ht1
    isplitr
    · iapply hf
      isplitr; · iexact Hg1
      iexact Hg2
    iapply (ctx_reached X Wt K κ (dst true c) (.inr (.inl false))); iexact Hctx
  iintro HO
  iapply (wp_signal X Wt K κ c (dst false c) (.inl true) (credS true) rfl j (Finset.mem_range.mpr hj) (ixCred j) (ow c n (j + 1)) _ Q) $$ [Ht2 HO]
  · isplitr; · iexact Hctx
    isplitl [HO]; · iexact HO
    isplitl [Ht2]; · iexact Ht2
    isplitr
    · iapply ht
      isplitr; · iexact Hg1
      iexact Hg2
    iapply (ctx_reached X Wt K κ (dst false c) (.inr (.inl true))); iexact Hctx
  iexact Hk

theorem wp_takeCredits (c : Dev nD) (m : ℕ) (hm : m ≤ 11) (O : CellTallies nD τ sig ℕ) (hO : Above (ixCred m) O) (k : KProg F) (Q : PUnit → sProp 𝕄) :
    iprop(ctx X Wt K κ ∗ Ccr c m ∗ crS c false m ∗ crS c true m ∗ owesE c O)
      ⊢ iprop(((crS c false (m + 1) ∗ crS c true (m + 1) ∗ all (WG c (m + 2)) ∗ owesE c O) -∗ WP c k Q) -∗ WP c (takeCredits k) Q) := by
  unfold Ccr takeCredits
  iintro ⟨#Hctx, ⟨Hc1, Hc2⟩, Hs1, Hs2, HO⟩ Hk
  iapply (wp_takeCredit X Wt K κ c false m hm (ixCred m) (by simp only [ixCred]; omega) O hO _ Q) $$ [Hc1 HO Hs1]
  · isplitr; · iexact Hctx
    isplitl [Hc1]; · iexact Hc1
    isplitl [HO]; · iexact HO
    iexact Hs1
  iintro ⟨HO, Hs1, Hg1⟩
  iapply (wp_takeCredit X Wt K κ c true m hm (ixCred m) (by simp only [ixCred]; omega) O hO _ Q) $$ [Hc2 HO Hs2]
  · isplitr; · iexact Hctx
    isplitl [Hc2]; · iexact Hc2
    isplitl [HO]; · iexact HO
    iexact Hs2
  iintro ⟨HO, Hs2, Hg2⟩
  ihave Hg := (WG_of c (m + 1)) $$ [Hg1 Hg2]
  · isplitl [Hg1]; · iexact Hg1
    iexact Hg2
  icases Hg with ⟨-, Hg⟩
  iapply Hk
  isplitl [Hs1]; · iexact Hs1
  isplitl [Hs2]; · iexact Hs2
  isplitl [Hg]; · iexact Hg
  iexact HO

theorem wp_takeCredits_last (c : Dev nD) (O : CellTallies nD τ sig ℕ) (hO : Above (ixCred 12) O) (k : KProg F) (Q : PUnit → sProp 𝕄) :
    iprop(ctx X Wt K κ ∗ Ccr c 12 ∗ crS c false 12 ∗ crS c true 12 ∗ owesE c O)
      ⊢ iprop(((atPos ER (cC false c) 1 ∅ 0 ∗ atPos ER (cC true c) 1 ∅ 0 ∗ all (WG c 14) ∗ owesE c O) -∗ WP c k Q) -∗ WP c (takeCredits k) Q) := by
  unfold Ccr takeCredits
  iintro ⟨#Hctx, ⟨Hc1, Hc2⟩, Hs1, Hs2, HO⟩ Hk
  iapply (wp_takeCredit_last X Wt K κ c false (ixCred 12) (by decide) O hO _ Q) $$ [Hc1 HO Hs1]
  · isplitr; · iexact Hctx
    isplitl [Hc1]; · iexact Hc1
    isplitl [HO]; · iexact HO
    iexact Hs1
  iintro ⟨HO, Hs1, Hg1⟩
  iapply (wp_takeCredit_last X Wt K κ c true (ixCred 12) (by decide) O hO _ Q) $$ [Hc2 HO Hs2]
  · isplitr; · iexact Hctx
    isplitl [Hc2]; · iexact Hc2
    isplitl [HO]; · iexact HO
    iexact Hs2
  iintro ⟨HO, Hs2, Hg2⟩
  ihave Hg := (WG_of c 13) $$ [Hg1 Hg2]
  · isplitl [Hg1]; · iexact Hg1
    iexact Hg2
  icases Hg with ⟨-, Hg⟩
  iapply Hk
  isplitl [Hs1]; · iexact Hs1
  isplitl [Hs2]; · iexact Hs2
  isplitl [Hg]; · iexact Hg
  iexact HO

/-! ## The partial products -/

/-- The two cast operands in their buffers. -/
def ops (c : Dev nD) : sProp 𝕄 :=
  iprop(((c : Thread nD τ).loc cc0_scratch0 ↦{fullShare} X c) ∗ ((c : Thread nD τ).loc cc0_scratch1 ↦{fullShare} Wt c))

theorem wp_loadX (c : Dev nD) (off : Fin 2 → ℕ) (inb) (P : Vec F S256x256 .bf16 → KProg F) (Q : PUnit → sProp 𝕄) :
    ((c : Thread nD τ).loc cc0_scratch0 ↦{fullShare} X c)
      ⊢ iprop((((c : Thread nD τ).loc cc0_scratch0 ↦{fullShare} X c) -∗ WP c (P (rdX (X c) off inb)) Q) -∗ WP c (loadX off inb P) Q) := by
  unfold loadX
  iintro Hs Hk
  iapply (wp_load 𝒱₀ (c : Thread nD τ) none Set.univ (m := xM) (Finset.subset_univ _)) $$ Hs; iintro Hs
  iapply Hk; iexact Hs
theorem wp_loadW (c : Dev nD) (b : Bool) (P : Vec F S256x4096 .bf16 → KProg F) (Q : PUnit → sProp 𝕄) :
    ((c : Thread nD τ).loc cc0_scratch1 ↦{fullShare} Wt c)
      ⊢ iprop((((c : Thread nD τ).loc cc0_scratch1 ↦{fullShare} Wt c) -∗ WP c (P (rdW (Wt c) b)) Q) -∗ WP c (loadW b P) Q) := by
  unfold loadW
  iintro Hs Hk
  iapply (wp_load 𝒱₀ (c : Thread nD τ) none Set.univ (m := wM) (Finset.subset_univ _)) $$ Hs; iintro Hs
  iapply Hk; iexact Hs

theorem part_succ (c : Dev nD) (r : Fin 15) : part X Wt c (r.val + 1) = fun b =>
    bif b then prod (rdX (X c) (k0_off4 c (BitVec.ofNat 32 (1 + r.val))) (k0_off4_inb c r)) (rdW (Wt c) true)
      else prod (rdX (X c) (k0_off3 c (BitVec.ofNat 32 (1 + r.val))) (k0_off3_inb c r)) (rdW (Wt c) false) :=
  funext fun b => dif_pos r.isLt

theorem wp_parts (c : Dev nD) (r : Fin 15) (P : (Bool → FVec F S256x4096 .f32) → KProg F) (Q : PUnit → sProp 𝕄) :
    ops X Wt c ⊢ iprop((ops X Wt c -∗ WP c (P (part X Wt c (r.val + 1))) Q) -∗ WP c (parts c r P) Q) := by
  rw [part_succ]
  unfold ops parts
  iintro ⟨Hx, Hw⟩ Hk
  iapply (wp_loadX X c _ _ _ Q) $$ Hx; iintro Hx
  iapply (wp_loadW Wt c false _ Q) $$ Hw; iintro Hw
  iapply (wp_loadX X c _ _ _ Q) $$ Hx; iintro Hx
  iapply (wp_loadW Wt c true _ Q) $$ Hw; iintro Hw
  iapply Hk
  isplitl [Hx]; · iexact Hx
  iexact Hw
theorem wp_parts0 (c : Dev nD) (P : (Bool → FVec F S256x4096 .f32) → KProg F) (Q : PUnit → sProp 𝕄) :
    ops X Wt c ⊢ iprop((ops X Wt c -∗ WP c (P (part X Wt c 0)) Q) -∗ WP c (parts0 c P) Q) := by
  unfold ops parts0
  iintro ⟨Hx, Hw⟩ Hk
  iapply (wp_loadX X c _ _ _ Q) $$ Hx; iintro Hx
  iapply (wp_loadW Wt c false _ Q) $$ Hw; iintro Hw
  iapply (wp_loadX X c _ _ _ Q) $$ Hx; iintro Hx
  iapply (wp_loadW Wt c true _ Q) $$ Hw; iintro Hw
  iapply Hk
  isplitl [Hx]; · iexact Hx
  iexact Hw

/-! ## The middle steps -/

/-- Before step `m + 2`. -/
def St (c : Dev nD) (m : ℕ) : sProp 𝕄 :=
  iprop(all (Fly c m) ∗ all (Fly c (m + 1)) ∗ all (Rdy c (m + 1)) ∗ all (Rdy c (m + 2)) ∗ (all fun i => grant i c (m + 2))
    ∗ (bigSep (Finset.Ico (m + 2) 15) fun h => all (Pend c h)) ∗ (bigSep (Finset.Ico (m + 1) 15) fun h => all (Rcr c h))
    ∗ bigSep (Finset.Ico (m + 1) 13) (Ctok c) ∗ bigSep (Finset.Ico m 13) (Ccr c) ∗ crS c false m ∗ crS c true m
    ∗ owesE c (ow c (8 * (m + 2)) (m + 1)) ∗ ops X Wt c)

theorem peel {a b : ℕ} (h : a < b) (A : ℕ → sProp 𝕄) : bigSep (Finset.Ico a b) A ⊢ iprop(A a ∗ bigSep (Finset.Ico (a + 1) b) A) :=
  Entails.of_eq (bigSep_Ico_succ_bot h A)

theorem drain_two (h : ℕ) (k : KProg F) : drain (h + 2) k = drain h k := by
  show lanes (fun b s K => waitSend b (slot (h + 2) s) K) k = lanes (fun b s K => waitSend b (slot h s) K) k
  exact congrArg (fun f => lanes f k) (funext fun b => funext fun s => funext fun K => by rw [slot_two])

theorem wp_stepMid (c : Dev nD) (m : ℕ) (hm : m ≤ 11) (k : KProg F) (Q : PUnit → sProp 𝕄) :
    iprop(ctx X Wt K κ ∗ St X Wt c m) ⊢ iprop((St X Wt c (m + 1) -∗ WP c k Q) -∗ WP c (stepMid c ⟨m + 1, by omega⟩ k) Q) := by
  have hm1 : m + 1 < 15 := by omega
  have ha0 : Above 0 (ow c (8 * (m + 2)) (m + 1)) := above_ow c _ _ 0 (by omega) (by omega) (by omega)
  have ha : Above (ixCred m) (ow c (8 * (m + 2)) (m + 1)) := above_ow c _ _ _ (by simp only [ixCred]; omega) (by simp only [ixCred]; omega) (by simp only [ixCred]; omega)
  unfold St stepMid
  iintro ⟨#Hctx, Hf0, Hf1, Hy1, Hy2, #Hg2, Hp, Hc, Ht, Hcc, Hs1, Hs2, HO, Hops⟩ Hk
  iapply (wp_parts X Wt c ⟨m + 1, hm1⟩ _ Q) $$ Hops; iintro Hops
  rw [drain_two]
  iapply (wp_drain X Wt K κ c m (by omega) _ ha0 _ Q) $$ [Hf0 HO]
  · isplitr; · iexact Hctx
    isplitl [Hf0]; · iexact Hf0
    iexact HO
  iintro ⟨Hf0, HO⟩
  ihave Hcc := (peel (by omega : m < 13) (Ccr c)) $$ Hcc
  icases Hcc with ⟨Hcc0, Hcc⟩
  iapply (wp_takeCredits X Wt K κ c m hm _ ha _ Q) $$ [Hcc0 Hs1 Hs2 HO]
  · isplitr; · iexact Hctx
    isplitl [Hcc0]; · iexact Hcc0
    isplitl [Hs1]; · iexact Hs1
    isplitl [Hs2]; · iexact Hs2
    iexact HO
  iintro ⟨Hs1, Hs2, Hw, HO⟩
  ihave Hp := (peel (by omega : m + 2 < 15) fun h => all (Pend (F := F) c h)) $$ Hp
  icases Hp with ⟨Hp0, Hp⟩
  ihave Hc := (peel (by omega : m + 1 < 15) fun h => all (Rcr (F := F) c h)) $$ Hc
  icases Hc with ⟨Hc0, Hc⟩
  iapply (wp_stages X Wt K κ c (m + 1) (by omega) (m + 1) le_rfl _ Q) $$ [Hw Hf0 Hy1 Hc0 Hp0 HO]
  · isplitr; · iexact Hctx
    isplitl [Hw]; · iexact Hw
    isplitl [Hf0]; · iexact Hf0
    isplitl [Hy1]; · iexact Hy1
    isplitl [Hc0]; · iexact Hc0
    isplitl [Hp0]; · iexact Hp0
    iexact HO
  iintro ⟨Hf2, Hgot, HO⟩
  imod (all_release X Wt K κ c (m + 1)) $$ [Hgot] with ⟨Hy3, #Hg3⟩
  · isplitr; · iexact Hctx
    iexact Hgot
  ihave Ht := (peel (by omega : m + 1 < 13) (Ctok c)) $$ Ht
  icases Ht with ⟨Ht0, Ht⟩
  iapply (wp_giveCredits X Wt K κ c _ (m + 1) (by omega) k Q) $$ [Ht0 HO]
  · isplitr; · iexact Hctx
    isplitr; · iexact Hg2
    isplitr; · iexact Hg3
    isplitl [Ht0]; · iexact Ht0
    iexact HO
  iintro HO
  iapply Hk
  isplitl [Hf1]; · iexact Hf1
  isplitl [Hf2]; · iexact Hf2
  isplitl [Hy2]; · iexact Hy2
  isplitl [Hy3]; · iexact Hy3
  isplitr; · iexact Hg3
  isplitl [Hp]; · iexact Hp
  isplitl [Hc]; · iexact Hc
  isplitl [Ht]; · iexact Ht
  isplitl [Hcc]; · iexact Hcc
  isplitl [Hs1]; · iexact Hs1
  isplitl [Hs2]; · iexact Hs2
  isplitl [HO]; · iexact HO
  iexact Hops

theorem wp_mids (c : Dev nD) (n : ℕ) (hn : n ≤ 12) (k : KProg F) (Q : PUnit → sProp 𝕄) :
    iprop(ctx X Wt K κ ∗ St X Wt c (12 - n)) ⊢ iprop((St X Wt c 12 -∗ WP c k Q) -∗ WP c (mids c n hn k) Q) := by
  induction n with
  | zero =>
    iintro ⟨-, H⟩ Hk
    iapply Hk; iexact H
  | succ n ih =>
    have e : (⟨12 - n, by omega⟩ : Fin 15) = ⟨12 - (n + 1) + 1, by omega⟩ := Fin.ext (by simp only; omega)
    have hs := wp_stepMid X Wt K κ c (12 - (n + 1)) (by omega) (mids c n (by omega) k) Q
    rw [← e, show 12 - (n + 1) + 1 = 12 - n by omega] at hs
    have ih' := ih (by omega : n ≤ 12)
    iintro ⟨#Hctx, H⟩ Hk
    iapply hs $$ [H]
    · isplitr; · iexact Hctx
      iexact H
    iintro H
    iapply ih' $$ [H]
    · isplitr; · iexact Hctx
      iexact H
    iexact Hk

end Cert.Proof

end
-- ==== Proof.Body.lean ====
/-
  The body from its start to its end: the casts, the first hop, the handshake on the barrier, step 1,
  the middle steps, the last two, and the closing waits. `wp_body` is the whole body, from what the
  launch hands device `c` to the result in its buffer, every cell at its last round and nothing owed.
-/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (K : Dev nD × CK → ℕ) (κ : Key → ℕ)

/-! ## Casts and the scale -/

theorem hz2 : (![0, 0] : Fin 2 → Nat) = fun _ => 0 := funext fun a => by fin_cases a <;> rfl

theorem wp_casts (c : Dev nD) (x : (cc0_stg0_0 : Ref sig .tc).ty.Contents (Elt F)) (w : (cc0_stg1_0 : Ref sig .tc).ty.Contents (Elt F))
    (f0 : (cc0_scratch0 : Ref sig .tc).ty.Contents (Elt F)) (f1 : (cc0_scratch1 : Ref sig .tc).ty.Contents (Elt F))
    (hX : X c = k0_pay1 x) (hW : Wt c = k0_pay2 w) (k : KProg F) (Q : PUnit → sProp 𝕄) :
    iprop(((c : Thread nD τ).loc cc0_stg0_0 ↦{fullShare} x) ∗ ((c : Thread nD τ).loc cc0_stg1_0 ↦{fullShare} w)
        ∗ ((c : Thread nD τ).loc cc0_scratch0 ↦{fullShare} f0) ∗ ((c : Thread nD τ).loc cc0_scratch1 ↦{fullShare} f1))
      ⊢ iprop(((((c : Thread nD τ).loc cc0_stg0_0 ↦{fullShare} x) ∗ ((c : Thread nD τ).loc cc0_stg1_0 ↦{fullShare} w) ∗ ops X Wt c) -∗ WP c k Q)
          -∗ WP c (casts k) Q) := by
  have rx : (Memref.whole cc0_stg0_0).view.readAt (Elt F) (Rect.unit (s := S4096x256) ![0, 0] S4096x256.size inb_S4096x256_S4096x256_0_0).toLoadRect x = x :=
    Memref.readAt_unit_zero (Elt F) cc0_stg0_0 hz2 _ x
  have rw' : (Memref.whole cc0_stg1_0).view.readAt (Elt F) (Rect.unit (s := S256x8192) ![0, 0] S256x8192.size inb_S256x8192_S256x8192_0_0).toLoadRect w = w :=
    Memref.readAt_unit_zero (Elt F) cc0_stg1_0 hz2 _ w
  have wx (v : (cc0_scratch0 : Ref sig .tc).ty.Contents (Elt F)) :
      (xM.access (Rect.unit (s := S4096x256) ![0, 0] S4096x256.size inb_S4096x256_S4096x256_0_0) : View sig .tc _ _ _).write (Elt F) f0 v Finset.univ = v :=
    Memref.write_access_unit_zero_univ (Elt F) cc0_scratch0 hz2 _ f0 v
  have ww (v : (cc0_scratch1 : Ref sig .tc).ty.Contents (Elt F)) :
      (wM.access (Rect.unit (s := S256x8192) ![0, 0] S256x8192.size inb_S256x8192_S256x8192_0_0) : View sig .tc _ _ _).write (Elt F) f1 v Finset.univ = v :=
    Memref.write_access_unit_zero_univ (Elt F) cc0_scratch1 hz2 _ f1 v
  unfold ops casts
  rw [hX, hW]
  iintro ⟨Hx, Hw, H0, H1⟩ Hk
  iapply (wp_load 𝒱₀ (c : Thread nD τ) none Set.univ (m := Memref.whole cc0_stg0_0) (Finset.subset_univ _)) $$ Hx; iintro Hx
  rw [rx]
  iapply (wp_load 𝒱₀ (c : Thread nD τ) none Set.univ (m := xM) (Finset.subset_univ _)) $$ H0; iintro H0
  iapply (wp_store 𝒱₀ (c : Thread nD τ) none Set.univ (m := xM) (r := Rect.unit (s := S4096x256) ![0, 0] S4096x256.size inb_S4096x256_S4096x256_0_0) (Mk := Finset.univ) (Finset.subset_univ _)) $$ H0; iintro H0
  rw [wx]
  iapply (wp_load 𝒱₀ (c : Thread nD τ) none Set.univ (m := Memref.whole cc0_stg1_0) (Finset.subset_univ _)) $$ Hw; iintro Hw
  rw [rw']
  iapply (wp_load 𝒱₀ (c : Thread nD τ) none Set.univ (m := wM) (Finset.subset_univ _)) $$ H1; iintro H1
  iapply (wp_store 𝒱₀ (c : Thread nD τ) none Set.univ (m := wM) (r := Rect.unit (s := S256x8192) ![0, 0] S256x8192.size inb_S256x8192_S256x8192_0_0) (Mk := Finset.univ) (Finset.subset_univ _)) $$ H1; iintro H1
  rw [ww]
  iapply Hk
  isplitl [Hx]; · iexact Hx
  isplitl [Hw]; · iexact Hw
  isplitl [H0]; · iexact H0
  iexact H1

/-- The one element of a scalar operand. -/
abbrev scalarR : Rect S1 := Rect.unit (s := S1) ![0] S1.size inb_S1_S1_0
def scalar2 (f : (cc0_stg2_0 : Ref sig .tc).ty.Contents (Elt F)) : F .f32 :=
  ((Memref.whole cc0_stg2_0).access scalarR : View sig .tc _ _ _).read (Elt F) f (Shape.Idx.first (numel1_S1.symm ▸ Nat.one_pos))
def scalar3 (f : (cc0_stg3_0 : Ref sig .tc).ty.Contents (Elt F)) : F .f32 :=
  ((Memref.whole cc0_stg3_0).access scalarR : View sig .tc _ _ _).read (Elt F) f (Shape.Idx.first (numel1_S1.symm ▸ Nat.one_pos))
/-- The scale: the product of the two scalar operands. -/
def alpha (f2 : (cc0_stg2_0 : Ref sig .tc).ty.Contents (Elt F)) (f3 : (cc0_stg3_0 : Ref sig .tc).ty.Contents (Elt F)) : F .f32 :=
  Scalar.mulf (scalar2 f2) (scalar3 f3)

theorem wp_loadAlpha (c : Dev nD) (f2 : (cc0_stg2_0 : Ref sig .tc).ty.Contents (Elt F)) (f3 : (cc0_stg3_0 : Ref sig .tc).ty.Contents (Elt F))
    (P : F .f32 → KProg F) (Q : PUnit → sProp 𝕄) :
    iprop(((c : Thread nD τ).loc cc0_stg2_0 ↦{fullShare} f2) ∗ ((c : Thread nD τ).loc cc0_stg3_0 ↦{fullShare} f3))
      ⊢ iprop(((((c : Thread nD τ).loc cc0_stg2_0 ↦{fullShare} f2) ∗ ((c : Thread nD τ).loc cc0_stg3_0 ↦{fullShare} f3)) -∗ WP c (P (alpha f2 f3)) Q)
          -∗ WP c (loadAlpha P) Q) := by
  unfold loadAlpha alpha scalar2 scalar3
  iintro ⟨H2, H3⟩ Hk
  iapply (wp_smemLoadElt 𝒱₀ (c : Thread nD τ) none Set.univ (m := Memref.whole cc0_stg2_0) (r := scalarR) (Finset.subset_univ _)) $$ H2; iintro H2
  iapply (wp_smemLoadElt 𝒱₀ (c : Thread nD τ) none Set.univ (m := Memref.whole cc0_stg3_0) (r := scalarR) (Finset.subset_univ _)) $$ H3; iintro H3
  iapply Hk
  isplitl [H2]; · iexact H2
  iexact H3

/-! ## The result's lanes -/

/-- The result buffer after `n` lanes of the last step. -/
def outW (a : F .f32) (c : Dev nD) (f : (cc0_stg4_0 : Ref sig .tc).ty.Contents (Elt F)) : ℕ → (cc0_stg4_0 : Ref sig .tc).ty.Contents (Elt F)
  | 0 => f
  | n + 1 => (oM.access (outR (lb (lane n)) (ls (lane n))) : View sig .tc _ _ _).write (Elt F) (outW a c f n)
      (fin a (total X Wt (lb (lane n)) 15 c (ls (lane n)))) Finset.univ

theorem wp_stageOuts (c : Dev nD) (a : F .f32) (f : (cc0_stg4_0 : Ref sig .tc).ty.Contents (Elt F)) (k : KProg F) (Q : PUnit → sProp 𝕄) :
    iprop(ctx X Wt K κ ∗ all (Rdy c 14) ∗ all (Rcr c 14) ∗ owesE c (owedEnd c) ∗ ((c : Thread nD τ).loc cc0_stg4_0 ↦{fullShare} f))
      ⊢ iprop(((all (Got c 14) ∗ owesE c (owedEnd c) ∗ ((c : Thread nD τ).loc cc0_stg4_0 ↦{fullShare} outW X Wt a c f 8)) -∗ WP c k Q)
          -∗ WP c (lanes (stageOut a (part X Wt c 15)) k) Q) := by
  have hz : iprop(all (F := F) (Rdy c 14) ∗ all (Rcr c 14)) ⊢ all fun i => iprop(Rdy c 14 i ∗ Rcr c 14 i) :=
    Entails.of_eq (by show _ = bigSep _ _; rw [bigSep_sep'])
  have ha : Above (ixHop 14) (owedEnd c) := by
    rw [← ow_end c (n := 120) (j := 13) le_rfl le_rfl]
    exact above_ow c _ _ _ (by decide) (by decide) (by decide)
  iintro ⟨#Hctx, Hy, Hc, HO, Ho⟩ Hk
  iapply (lanes_rule c (stageOut a (part X Wt c 15)) (fun i => iprop(Rdy c 14 i ∗ Rcr c 14 i)) (Got c 14)
      (fun n => iprop(ctx X Wt K κ ∗ owesE c (owedEnd c) ∗ ((c : Thread nD τ).loc cc0_stg4_0 ↦{fullShare} outW X Wt a c f n))) Q (fun i k => by
    have hl : lane i.val = i := Fin.ext (Nat.mod_eq_of_lt i.isLt)
    have hw : outW X Wt a c f (i.val + 1) = (oM.access (outR (lb i) (ls i)) : View sig .tc _ _ _).write (Elt F) (outW X Wt a c f i.val)
        (fin a (total X Wt (lb i) 15 c (ls i))) Finset.univ := by rw [outW, hl]
    unfold stageOut
    iintro ⟨⟨Hy, Hc⟩, #Hctx, HO, Ho⟩ Hk
    iapply (wp_lane_wait X Wt K κ c i 14 le_rfl _ ha _ Q) $$ [Hy Hc HO]
    · isplitr; · iexact Hctx
      isplitl [Hy]; · iexact Hy
      isplitl [Hc]; · iexact Hc
      iexact HO
    iintro %v ⟨%hv, Hg, HO⟩
    rw [hv]
    iapply (wp_load 𝒱₀ (c : Thread nD τ) none Set.univ (m := oM) (Finset.subset_univ _)) $$ Ho; iintro Ho
    iapply (wp_store 𝒱₀ (c : Thread nD τ) none Set.univ (m := oM) (r := outR (lb i) (ls i)) (Mk := Finset.univ) (Finset.subset_univ _)) $$ Ho; iintro Ho
    iapply Hk
    isplitl [Hg]; · iexact Hg
    isplitr; · iexact Hctx
    isplitl [HO]; · iexact HO
    rw [hw]
    iexact Ho) k) $$ [Hy Hc HO Ho]
  · isplitl [Hy Hc]
    · iapply hz
      isplitl [Hy]; · iexact Hy
      iexact Hc
    isplitr; · iexact Hctx
    isplitl [HO]; · iexact HO
    iexact Ho
  iintro ⟨Hg, -, HO, Ho⟩
  iapply Hk
  isplitl [Hg]; · iexact Hg
  isplitl [HO]; · iexact HO
  iexact Ho

/-! ## The start and the closing -/

/-- Lane `i`'s receive slot of parity `h`, before anything. -/
def Raw (c : Dev nD) (h : ℕ) (i : Fin 8) : sProp 𝕄 :=
  iprop(slotOwn (recvM (lb i)) (slot h (ls i)) c ∗ atPos ER (rC i h c) 0 ∅ 0 ∗ readerAt ES (c, i, par h) 0)

theorem lane_release0 (c : Dev nD) (h : ℕ) (hh : h < 2) (i : Fin 8) :
    iprop(ctx X Wt K κ ∗ Raw c h i) ⊢ (|={Set.univ}=> (Rdy c h i ∗ grant i c h) : sProp 𝕄) := by
  have ht := slot_release (S := slotOwn (F := F) (recvM (lb i)) (slot (par h).val (ls i)) c) (ι := κ (c, i, par h)) (k := (c, i, par h)) ES
    (Set.mem_univ (κ (c, i, par h))) (slot_slot_false (slotSet_nonempty _ _)) 0
  have hc := ctx_slot X Wt K κ c i (par h)
  have hr := ctx_reached X Wt K κ c (.inl (true, i, par h))
  rw [← slot_par h] at ht hc
  unfold Raw Rdy grant rC
  rw [show h / 2 = 0 by omega]
  iintro ⟨#Hctx, Hs, Hat, Hrd⟩
  imod ht $$ [Hrd Hs] with ⟨Hrd, #Hrel⟩
  · isplitr; · iapply hc; iexact Hctx
    isplitl [Hrd]; · iexact Hrd
    iexact Hs
  imodintro
  isplitl [Hat Hrd]
  · isplitl [Hat]; · iexact Hat
    iexact Hrd
  isplitr; · iexact Hrel
  iapply hr; iexact Hctx

theorem all_release0 (c : Dev nD) (h : ℕ) (hh : h < 2) :
    iprop(ctx X Wt K κ ∗ all (Raw c h)) ⊢ (|={Set.univ}=> (all (Rdy c h) ∗ all fun i => grant i c h) : sProp 𝕄) := by
  refine (bigSep_with_persistent fun i _ => lane_release0 X Wt K κ c h hh i).trans ((bigSep_fupd _ _).trans (BI.fupd_mono ?_))
  rw [bigSep_sep']

/-- Device `c`'s start on a two-unit cell (the barrier, the closing one). -/
def two (c : Dev nD) (b : Bool) (ι : ℕ) : sProp 𝕄 :=
  iprop(atPos ER (kcell c (.inr (.inr b))) 0 ∅ 0 ∗ cred (tallyAt (kcell c (.inr (.inr b))) ι 2)
    ∗ dutyTok ER (kcell (dst false c) (.inr (.inr b))) 0 1 ∗ dutyTok ER (kcell (dst true c) (.inr (.inr b))) 0 0)

theorem wp_two (c : Dev nD) (b : Bool) (σ : Sem sig) (hσ : csem (.inr (.inr b)) = .reg σ) (ι : ℕ) (hι : ι < 200) (O : CellTallies nD τ sig ℕ) (hO : Above ι O)
    (k : KProg F) (Q : PUnit → sProp 𝕄) :
    iprop(ctx X Wt K κ ∗ two c b ι ∗ payK X Wt (dst false c) (.inr (.inr b)) 0 1 ∗ payK X Wt (dst true c) (.inr (.inr b)) 0 0
        ∗ owesE c (O + tallyAt (kcell (dst true c) (.inr (.inr b))) ι 1 + tallyAt (kcell (dst false c) (.inr (.inr b))) ι 1))
      ⊢ iprop(((owesE c O ∗ atPos ER (kcell c (.inr (.inr b))) 1 ∅ 0 ∗ payK X Wt c (.inr (.inr b)) 0 0 ∗ payK X Wt c (.inr (.inr b)) 0 1) -∗ WP c k Q)
          -∗ WP c (signal (dst false c) σ <| signal (dst true c) σ <| waitUnits σ 2#32 k) Q) := by
  unfold two
  iintro ⟨#Hctx, ⟨Hat, Hc, Ht1, Ht0⟩, Hp1, Hp0, HO⟩ Hk
  iapply (wp_signal X Wt K κ c (dst false c) (.inr b) σ hσ 1 (by cases b <;> decide) ι (O + tallyAt (kcell (dst true c) (.inr (.inr b))) ι 1) _ Q) $$ [Ht1 Hp1 HO]
  · isplitr; · iexact Hctx
    isplitl [HO]; · iexact HO
    isplitl [Ht1]; · iexact Ht1
    isplitl [Hp1]; · iexact Hp1
    iapply (ctx_reached X Wt K κ (dst false c) (.inr (.inr b))); iexact Hctx
  iintro HO
  iapply (wp_signal X Wt K κ c (dst true c) (.inr b) σ hσ 0 (by cases b <;> decide) ι O _ Q) $$ [Ht0 Hp0 HO]
  · isplitr; · iexact Hctx
    isplitl [HO]; · iexact HO
    isplitl [Ht0]; · iexact Ht0
    isplitl [Hp0]; · iexact Hp0
    iapply (ctx_reached X Wt K κ (dst true c) (.inr (.inr b))); iexact Hctx
  iintro HO
  iapply (wp_waitTwo X Wt K κ c b σ hσ ι hι O hO _ Q) $$ [Hat Hc HO]
  · isplitr; · iexact Hctx
    isplitl [Hc]; · iexact Hc
    isplitl [HO]; · iexact HO
    iexact Hat
  iexact Hk

/-- What device `c` starts its body with, beside the operands and the result's buffer. -/
def Begin (c : Dev nD) : sProp 𝕄 :=
  iprop(all (Free c 0) ∗ all (Free c 1) ∗ all (Raw c 0) ∗ all (Raw c 1)
    ∗ (bigSep (Finset.Ico 0 15) fun h => all (Pend c h)) ∗ (bigSep (Finset.Ico 0 15) fun h => all (Rcr c h))
    ∗ bigSep (Finset.Ico 0 13) (Ctok c) ∗ bigSep (Finset.Ico 0 13) (Ccr c)
    ∗ atPos ER (cC false c) 0 ∅ 0 ∗ atPos ER (cC true c) 0 ∅ 0 ∗ two c false 1 ∗ two c true 100 ∗ owesE c (O₀ c))
/-- What it ends with. -/
def End (c : Dev nD) : sProp 𝕄 :=
  iprop(all (Free c 15) ∗ all (Free c 16) ∗ all (Got c 13) ∗ all (Got c 14)
    ∗ atPos ER (cC false c) 1 ∅ 0 ∗ atPos ER (cC true c) 1 ∅ 0 ∗ atPos ER (bC c) 1 ∅ 0 ∗ atPos ER (zC c) 1 ∅ 0 ∗ ops X Wt c ∗ owesE c 0)

theorem crS_zero (c : Dev nD) (b : Bool) : atPos ER (cC b c) 0 ∅ 0 ⊢ crS (F := F) c b 0 := by
  unfold crS
  iintro H
  iexists ∅
  isplitr; · ipureintro; exact ⟨Finset.empty_subset _, le_rfl⟩
  isplitl [H]; · iexact H
  rw [bigSep_empty]; iempintro

/-- From the start to step 2. -/
theorem wp_first (c : Dev nD) (x : (cc0_stg0_0 : Ref sig .tc).ty.Contents (Elt F)) (w : (cc0_stg1_0 : Ref sig .tc).ty.Contents (Elt F))
    (f2 : (cc0_stg2_0 : Ref sig .tc).ty.Contents (Elt F)) (f3 : (cc0_stg3_0 : Ref sig .tc).ty.Contents (Elt F))
    (hX : X c = k0_pay1 x) (hW : Wt c = k0_pay2 w) (P : F .f32 → KProg F) (Q : PUnit → sProp 𝕄) :
    iprop(ctx X Wt K κ ∗ Begin c ∗ ((c : Thread nD τ).loc cc0_stg0_0 ↦{fullShare} x) ∗ ((c : Thread nD τ).loc cc0_stg1_0 ↦{fullShare} w)
        ∗ ((c : Thread nD τ).loc cc0_stg2_0 ↦{fullShare} f2) ∗ ((c : Thread nD τ).loc cc0_stg3_0 ↦{fullShare} f3)
        ∗ (∃ f, (c : Thread nD τ).loc cc0_scratch0 ↦{fullShare} f) ∗ (∃ f, (c : Thread nD τ).loc cc0_scratch1 ↦{fullShare} f))
      ⊢ iprop(((St X Wt c 0 ∗ atPos ER (bC c) 1 ∅ 0 ∗ two c true 100 ∗ ((c : Thread nD τ).loc cc0_stg0_0 ↦{fullShare} x) ∗ ((c : Thread nD τ).loc cc0_stg1_0 ↦{fullShare} w)
          ∗ ((c : Thread nD τ).loc cc0_stg2_0 ↦{fullShare} f2) ∗ ((c : Thread nD τ).loc cc0_stg3_0 ↦{fullShare} f3)) -∗ WP c (P (alpha f2 f3)) Q)
        -∗ WP c (casts <| parts0 c fun p0 => store0 p0 <|
          signal (dst false c) barrier0 <| signal (dst true c) barrier0 <| waitUnits barrier0 2#32 <|
          send0 c <| loadAlpha fun a =>
          (parts c 0 fun p => lanes (stage c 1 p) <| giveCredits c <| P a)) Q) := by
  unfold Begin
  iintro ⟨#Hctx, ⟨Hf0, Hf1, Hraw0, Hraw1, Hp, Hc, Ht, Hcc, Hs1, Hs2, Hbar, Hcl, HO⟩, Hx, Hw, H2, H3, ⟨%g0, Hg0⟩, ⟨%g1, Hg1⟩⟩ Hk
  imod (all_release0 X Wt K κ c 0 (by decide)) $$ [Hraw0] with ⟨Hy0, #Hgr0⟩
  · isplitr; · iexact Hctx
    iexact Hraw0
  imod (all_release0 X Wt K κ c 1 (by decide)) $$ [Hraw1] with ⟨Hy1, #Hgr1⟩
  · isplitr; · iexact Hctx
    iexact Hraw1
  iapply (wp_casts X Wt c x w g0 g1 hX hW _ Q) $$ [Hx Hw Hg0 Hg1]
  · isplitl [Hx]; · iexact Hx
    isplitl [Hw]; · iexact Hw
    isplitl [Hg0]; · iexact Hg0
    iexact Hg1
  iintro ⟨Hx, Hw, Hops⟩
  iapply (wp_parts0 X Wt c _ Q) $$ Hops; iintro Hops
  iapply (wp_store0 X Wt c _ Q) $$ Hf0; iintro Hf0
  have hf : iprop((all fun i => grant (F := F) i c 0) ∗ all fun i => grant i c 1) ⊢ payK X Wt (dst true c) (.inr (.inr false)) 0 0 := by
    show _ ⊢ relAll false (dst false (dst true c)) 0
    rw [show dst false (dst true c) = c from dst_dst false c]; exact relAll_of false c 0
  have ht : iprop((all fun i => grant (F := F) i c 0) ∗ all fun i => grant i c 1) ⊢ payK X Wt (dst false c) (.inr (.inr false)) 0 1 := by
    show _ ⊢ relAll true (dst true (dst false c)) 0
    rw [show dst true (dst false c) = c from dst_dst true c]; exact relAll_of true c 0
  have ha : Above 1 (ow c 0 0) := above_ow c _ _ _ (by decide) (by decide) (by decide)
  iapply (wp_two X Wt K κ c false barrier0 rfl 1 (by decide) (ow c 0 0) ha _ Q) $$ [Hbar HO]
  · isplitr; · iexact Hctx
    isplitl [Hbar]; · iexact Hbar
    isplitr
    · iapply ht
      isplitr; · iexact Hgr0
      iexact Hgr1
    isplitr
    · iapply hf
      isplitr; · iexact Hgr0
      iexact Hgr1
    unfold O₀ O₁
    iexact HO
  iintro ⟨HO, Hbar, Hl, Hr⟩
  have hg : iprop(payK X Wt c (.inr (.inr false)) 0 0 ∗ payK X Wt c (.inr (.inr false)) 0 1) ⊢ iprop(all (WG c 0) ∗ all (WG c 1)) := WG_of c 0
  ihave Hg := hg $$ [Hl Hr]
  · isplitl [Hl]; · iexact Hl
    iexact Hr
  icases Hg with ⟨Hw0, Hw1⟩
  ihave Hp := (peel (by decide : 0 < 15) fun h => all (Pend (F := F) c h)) $$ Hp
  icases Hp with ⟨Hp0, Hp⟩
  iapply (wp_send0 X Wt K κ c 0 _ Q) $$ [Hw0 Hf0 Hp0 HO]
  · isplitr; · iexact Hctx
    isplitl [Hw0]; · iexact Hw0
    isplitl [Hf0]; · iexact Hf0
    isplitl [Hp0]; · iexact Hp0
    iexact HO
  iintro ⟨Hf0, HO⟩
  iapply (wp_loadAlpha c f2 f3 _ Q) $$ [H2 H3]
  · isplitl [H2]; · iexact H2
    iexact H3
  iintro ⟨H2, H3⟩
  iapply (wp_parts X Wt c 0 _ Q) $$ Hops; iintro Hops
  ihave Hp := (peel (by decide : 0 + 1 < 15) fun h => all (Pend (F := F) c h)) $$ Hp
  icases Hp with ⟨Hp0, Hp⟩
  ihave Hc := (peel (by decide : 0 < 15) fun h => all (Rcr (F := F) c h)) $$ Hc
  icases Hc with ⟨Hc0, Hc⟩
  iapply (wp_stages X Wt K κ c 0 (by decide) 0 le_rfl _ Q) $$ [Hw1 Hf1 Hy0 Hc0 Hp0 HO]
  · isplitr; · iexact Hctx
    isplitl [Hw1]; · iexact Hw1
    isplitl [Hf1]; · iexact Hf1
    isplitl [Hy0]; · iexact Hy0
    isplitl [Hc0]; · iexact Hc0
    isplitl [Hp0]; · iexact Hp0
    iexact HO
  iintro ⟨Hf1, Hgot, HO⟩
  imod (all_release X Wt K κ c 0) $$ [Hgot] with ⟨Hy2, #Hg2⟩
  · isplitr; · iexact Hctx
    iexact Hgot
  ihave Ht := (peel (by decide : 0 < 13) (Ctok c)) $$ Ht
  icases Ht with ⟨Ht0, Ht⟩
  iapply (wp_giveCredits X Wt K κ c _ 0 (by decide) _ Q) $$ [Ht0 HO]
  · isplitr; · iexact Hctx
    isplitr; · iexact Hgr1
    isplitr; · iexact Hg2
    isplitl [Ht0]; · iexact Ht0
    iexact HO
  iintro HO
  iapply Hk
  unfold St
  isplitr [Hbar Hcl Hx Hw H2 H3]
  · isplitl [Hf0]; · iexact Hf0
    isplitl [Hf1]; · iexact Hf1
    isplitl [Hy1]; · iexact Hy1
    isplitl [Hy2]; · iexact Hy2
    isplitr; · iexact Hg2
    isplitl [Hp]; · iexact Hp
    isplitl [Hc]; · iexact Hc
    isplitl [Ht]; · iexact Ht
    isplitl [Hcc]; · iexact Hcc
    isplitl [Hs1]; · iapply (crS_zero c false); iexact Hs1
    isplitl [Hs2]; · iapply (crS_zero c true); iexact Hs2
    isplitl [HO]; · iexact HO
    iexact Hops
  isplitl [Hbar]; · iexact Hbar
  isplitl [Hcl]; · iexact Hcl
  isplitl [Hx]; · iexact Hx
  isplitl [Hw]; · iexact Hw
  isplitl [H2]; · iexact H2
  iexact H3

/-- From step 14 to the end. -/
theorem wp_last (c : Dev nD) (a : F .f32) (f : (cc0_stg4_0 : Ref sig .tc).ty.Contents (Elt F)) (Q : PUnit → sProp 𝕄) :
    iprop(ctx X Wt K κ ∗ St X Wt c 12 ∗ atPos ER (bC c) 1 ∅ 0 ∗ two c true 100 ∗ ((c : Thread nD τ).loc cc0_stg4_0 ↦{fullShare} f))
      ⊢ iprop(((End X Wt c ∗ ((c : Thread nD τ).loc cc0_stg4_0 ↦{fullShare} outW X Wt a c f 8)) -∗ Q ⟨⟩)
        -∗ WP c (parts c 13 fun p => drain 12 <| takeCredits <| lanes (stage c 14 p) <|
          (parts c 14 fun p => lanes (stageOut a p) <| closing c)) Q) := by
  have ha0 : Above 0 (ow c (8 * 14) 13) := above_ow c _ _ _ (by decide) (by decide) (by decide)
  have ha : Above (ixCred 12) (ow c (8 * 14) 13) := above_ow c _ _ _ (by decide) (by decide) (by decide)
  have hae : Above 0 (owedEnd c) := by
    rw [← ow_end c (n := 120) (j := 13) le_rfl le_rfl]
    exact above_ow c _ _ _ (by decide) (by decide) (by decide)
  have he : owedEnd c = 0 + tallyAt (kcell (dst true c) (.inr (.inr true))) 100 1 + tallyAt (kcell (dst false c) (.inr (.inr true))) 100 1 := by
    rw [zero_add]; rfl
  unfold St
  iintro ⟨#Hctx, ⟨Hf0, Hf1, Hy1, Hy2, #Hg2, Hp, Hc, -, Hcc, Hs1, Hs2, HO, Hops⟩, Hbar, Hcl, Ho⟩ Hk
  iapply (wp_parts X Wt c 13 _ Q) $$ Hops; iintro Hops
  iapply (wp_drain X Wt K κ c 12 (by decide) _ ha0 _ Q) $$ [Hf0 HO]
  · isplitr; · iexact Hctx
    isplitl [Hf0]; · iexact Hf0
    iexact HO
  iintro ⟨Hf0, HO⟩
  ihave Hcc := (peel (by decide : 12 < 13) (Ccr c)) $$ Hcc
  icases Hcc with ⟨Hcc0, -⟩
  iapply (wp_takeCredits_last X Wt K κ c _ ha _ Q) $$ [Hcc0 Hs1 Hs2 HO]
  · isplitr; · iexact Hctx
    isplitl [Hcc0]; · iexact Hcc0
    isplitl [Hs1]; · iexact Hs1
    isplitl [Hs2]; · iexact Hs2
    iexact HO
  iintro ⟨Hs1, Hs2, Hw, HO⟩
  ihave Hp := (peel (by decide : 12 + 2 < 15) fun h => all (Pend (F := F) c h)) $$ Hp
  icases Hp with ⟨Hp0, -⟩
  ihave Hc := (peel (by decide : 12 + 1 < 15) fun h => all (Rcr (F := F) c h)) $$ Hc
  icases Hc with ⟨Hc0, Hc⟩
  ihave Hc := (peel (by decide : 12 + 1 + 1 < 15) fun h => all (Rcr (F := F) c h)) $$ Hc
  icases Hc with ⟨Hc1, -⟩
  iapply (wp_stages X Wt K κ c 13 (by decide) 13 le_rfl _ Q) $$ [Hw Hf0 Hy1 Hc0 Hp0 HO]
  · isplitr; · iexact Hctx
    isplitl [Hw]; · iexact Hw
    isplitl [Hf0]; · iexact Hf0
    isplitl [Hy1]; · iexact Hy1
    isplitl [Hc0]; · iexact Hc0
    isplitl [Hp0]; · iexact Hp0
    iexact HO
  iintro ⟨Hf2, Hgot, HO⟩
  iapply (wp_parts X Wt c 14 _ Q) $$ Hops; iintro Hops
  rw [ow_end c (by decide : 120 ≤ 8 * (13 + 2)) le_rfl]
  iapply (wp_stageOuts X Wt K κ c a f _ Q) $$ [Hy2 Hc1 HO Ho]
  · isplitr; · iexact Hctx
    isplitl [Hy2]; · iexact Hy2
    isplitl [Hc1]; · iexact Hc1
    isplitl [HO]; · iexact HO
    iexact Ho
  iintro ⟨Hgot', HO, Ho⟩
  unfold closing
  iapply (wp_drain X Wt K κ c 13 (by decide) _ hae _ Q) $$ [Hf1 HO]
  · isplitr; · iexact Hctx
    isplitl [Hf1]; · iexact Hf1
    iexact HO
  iintro ⟨Hf1, HO⟩
  iapply (wp_drain X Wt K κ c 14 (by decide) _ hae _ Q) $$ [Hf2 HO]
  · isplitr; · iexact Hctx
    isplitl [Hf2]; · iexact Hf2
    iexact HO
  iintro ⟨Hf2, HO⟩
  rw [he]
  iapply (wp_two X Wt K κ c true cc0_scoped0.sem rfl 100 (by decide) 0 (above_zero _) _ Q) $$ [Hcl HO]
  · isplitr; · iexact Hctx
    isplitl [Hcl]; · iexact Hcl
    isplitr; · dsimp only [payK]; iempintro
    isplitr; · dsimp only [payK]; iempintro
    iexact HO
  iintro ⟨HO, Hz, -, -⟩
  unfold WP
  rw [wp_ret]; imodintro
  iapply Hk
  unfold End
  isplitr [Ho]
  · isplitl [Hf1]; · iexact Hf1
    isplitl [Hf2]; · iexact Hf2
    isplitl [Hgot]; · iexact Hgot
    isplitl [Hgot']; · iexact Hgot'
    isplitl [Hs1]; · iexact Hs1
    isplitl [Hs2]; · iexact Hs2
    isplitl [Hbar]; · iexact Hbar
    isplitl [Hz]; · iexact Hz
    isplitl [Hops]; · iexact Hops
    iexact HO
  iexact Ho

/-- The body. -/
theorem wp_body (c : Dev nD) (x : (cc0_stg0_0 : Ref sig .tc).ty.Contents (Elt F)) (w : (cc0_stg1_0 : Ref sig .tc).ty.Contents (Elt F))
    (f2 : (cc0_stg2_0 : Ref sig .tc).ty.Contents (Elt F)) (f3 : (cc0_stg3_0 : Ref sig .tc).ty.Contents (Elt F)) (f : (cc0_stg4_0 : Ref sig .tc).ty.Contents (Elt F))
    (hX : X c = k0_pay1 x) (hW : Wt c = k0_pay2 w) (Q : PUnit → sProp 𝕄) :
    iprop(ctx X Wt K κ ∗ Begin c ∗ ((c : Thread nD τ).loc cc0_stg0_0 ↦{fullShare} x) ∗ ((c : Thread nD τ).loc cc0_stg1_0 ↦{fullShare} w)
        ∗ ((c : Thread nD τ).loc cc0_stg2_0 ↦{fullShare} f2) ∗ ((c : Thread nD τ).loc cc0_stg3_0 ↦{fullShare} f3)
        ∗ (∃ f, (c : Thread nD τ).loc cc0_scratch0 ↦{fullShare} f) ∗ (∃ f, (c : Thread nD τ).loc cc0_scratch1 ↦{fullShare} f)
        ∗ ((c : Thread nD τ).loc cc0_stg4_0 ↦{fullShare} f))
      ⊢ iprop(((End X Wt c ∗ ((c : Thread nD τ).loc cc0_stg0_0 ↦{fullShare} x) ∗ ((c : Thread nD τ).loc cc0_stg1_0 ↦{fullShare} w)
          ∗ ((c : Thread nD τ).loc cc0_stg2_0 ↦{fullShare} f2) ∗ ((c : Thread nD τ).loc cc0_stg3_0 ↦{fullShare} f3)
          ∗ ((c : Thread nD τ).loc cc0_stg4_0 ↦{fullShare} outW X Wt (alpha f2 f3) c f 8)) -∗ Q ⟨⟩)
        -∗ WP c (body c) Q) := by
  unfold body
  iintro ⟨#Hctx, HB, Hx, Hw, H2, H3, Hg0, Hg1, Ho⟩ Hk
  iapply (wp_first X Wt K κ c x w f2 f3 hX hW _ Q) $$ [HB Hx Hw H2 H3 Hg0 Hg1]
  · isplitr; · iexact Hctx
    isplitl [HB]; · iexact HB
    isplitl [Hx]; · iexact Hx
    isplitl [Hw]; · iexact Hw
    isplitl [H2]; · iexact H2
    isplitl [H3]; · iexact H3
    isplitl [Hg0]; · iexact Hg0
    iexact Hg1
  iintro ⟨HS, Hbar, Hcl, Hx, Hw, H2, H3⟩
  iapply (wp_mids X Wt K κ c 12 le_rfl _ Q) $$ [HS]
  · isplitr; · iexact Hctx
    iexact HS
  iintro HS
  iapply (wp_last X Wt K κ c (alpha f2 f3) f Q) $$ [HS Hbar Hcl Ho]
  · isplitr; · iexact Hctx
    isplitl [HS]; · iexact HS
    isplitl [Hbar]; · iexact Hbar
    isplitl [Hcl]; · iexact Hcl
    iexact Ho
  iintro ⟨HE, Ho⟩
  iapply Hk
  isplitl [HE]; · iexact HE
  isplitl [Hx]; · iexact Hx
  isplitl [Hw]; · iexact Hw
  isplitl [H2]; · iexact H2
  isplitl [H3]; · iexact H3
  iexact Ho

end Cert.Proof

end
-- ==== Proof.Deal.lean ====
/-
  The launch's ghost state: what the launch element holds, how it is dealt to the devices, and the
  global step that turns it, with every device's counters at zero, into the cells' and the slots'
  invariants and each device's positions, reading counts and the tokens it pays with.
-/
module

public import proofs.«01_k».proof.Proof.Body
public import Idealize.ShloMosaic.Lib.Ring

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))

/-! ## Families -/

theorem both (Φ : Bool → sProp 𝕄) : bigSep Finset.univ Φ = iprop(Φ false ∗ Φ true) :=
  bigSep_univ_eq_bigSepL [false, true] (by decide) (by decide) Φ
theorem both2 (Φ : Fin 2 → sProp 𝕄) : bigSep Finset.univ Φ = iprop(Φ 0 ∗ Φ 1) :=
  bigSep_univ_eq_bigSepL [0, 1] (by decide) (by decide) Φ

/-- What one device holds, as a family over all of them. -/
theorem only_at (c₀ : Dev nD) (P : sProp 𝕄) : (bigSep Finset.univ fun c : Dev nD => if c = c₀ then P else iprop(emp)) = P := by
  rw [bigSep_univ_at _ c₀, if_pos rfl, bigSep_congr (Ψ := fun _ => iprop(emp)) fun c hc => if_neg (Finset.ne_of_mem_erase hc)]
  have h : (bigSep (Finset.univ.erase c₀) fun _ : Dev nD => (iprop(emp) : sProp 𝕄)) = iprop(emp) := BI.bigSep_emp_const _
  rw [h]
  exact BI.Entails.antisymm BI.sep_emp.1 BI.sep_emp.2

/-- A device's cells, kind by kind. -/
theorem cells_split (Φ : CK → sProp 𝕄) :
    bigSep Finset.univ Φ
      = iprop(((bigSep Finset.univ fun ip : Fin 8 × Fin 2 => Φ (.inl (false, ip))) ∗ (bigSep Finset.univ fun ip : Fin 8 × Fin 2 => Φ (.inl (true, ip))))
        ∗ (Φ (.inr (.inl false)) ∗ Φ (.inr (.inl true))) ∗ (Φ (.inr (.inr false)) ∗ Φ (.inr (.inr true)))) := by
  rw [BI.bigSep_univ_sum, BI.bigSep_univ_prod, both, BI.bigSep_univ_sum, both, both]; rfl
/-- A device's tokens, kind by kind. -/
theorem toks_split (Φ : (Bool × Fin 15 × Fin 8) ⊕ ((Bool × Fin 13) ⊕ (Bool × Fin 2)) → sProp 𝕄) :
    bigSep Finset.univ Φ
      = iprop(((bigSep Finset.univ fun hi : Fin 15 × Fin 8 => Φ (.inl (false, hi))) ∗ (bigSep Finset.univ fun hi : Fin 15 × Fin 8 => Φ (.inl (true, hi))))
        ∗ ((bigSep Finset.univ fun j : Fin 13 => Φ (.inr (.inl (false, j)))) ∗ (bigSep Finset.univ fun j : Fin 13 => Φ (.inr (.inl (true, j)))))
        ∗ (Φ (.inr (.inr (false, 0))) ∗ Φ (.inr (.inr (false, 1)))) ∗ (Φ (.inr (.inr (true, 0))) ∗ Φ (.inr (.inr (true, 1))))) := by
  rw [BI.bigSep_univ_sum, BI.bigSep_univ_prod (fun x : Bool × Fin 15 × Fin 8 => Φ (.inl x)), both, BI.bigSep_univ_sum,
    BI.bigSep_univ_prod (fun x : Bool × Fin 13 => Φ (.inr (.inl x))), BI.bigSep_univ_prod (fun x : Bool × Fin 2 => Φ (.inr (.inr x))), both, both, both2, both2]
  rfl
/-- Lanes and parities. -/
theorem pairs_split (Φ : Fin 8 × Fin 2 → sProp 𝕄) :
    bigSep Finset.univ Φ = iprop((all fun i => Φ (i, 0)) ∗ all fun i => Φ (i, 1)) := by
  rw [BI.bigSep_univ_prod]
  show bigSep _ _ = iprop(bigSep _ _ ∗ bigSep _ _)
  rw [← bigSep_sep']
  exact bigSep_congr fun i _ => both2 _
/-- Hops and lanes. -/
theorem hops_split (Φ : ℕ → Fin 8 → sProp 𝕄) :
    (bigSep Finset.univ fun hi : Fin 15 × Fin 8 => Φ hi.1.val hi.2) = bigSep (Finset.Ico 0 15) fun h => all (Φ h) := by
  rw [BI.bigSep_univ_prod, Ring.bigSep_fin_eq_range 15 _ (fun h => all (Φ h)) (fun _ _ => rfl), Finset.range_eq_Ico]

/-! ## The token and write indices -/

/-- Ring `b`'s step to the next device. -/
def ringE (b : Bool) : Equiv.Perm (Dev nD) := ⟨dst b, dst (!b), fun c => dst_dst' b c, fun c => dst_dst b c⟩

abbrev TI : Type := (Bool × Fin 15 × Fin 8) ⊕ ((Bool × Fin 13) ⊕ (Bool × Fin 2))
/-- Token `j` of device `c`'s cells. -/
def tokOf : Dev nD × TI → GSem nD τ sig × ℕ × ℕ
  | (c, .inl (b, h, i)) => (kcell c (.inl (b, i, par h.val)), h.val / 2, 0)
  | (c, .inr (.inl (b, j))) => (kcell c (.inr (.inl b)), 0, j.val)
  | (c, .inr (.inr (b, d))) => (kcell c (.inr (.inr b)), 0, d.val)
/-- Whose cells' token `j` is paid by a device. -/
def payE : TI → Equiv.Perm (Dev nD)
  | .inl (false, _, _) => Equiv.refl _
  | .inl (true, _, i) => ringE (lb i)
  | .inr (.inl (b, _)) => ringE (!b)
  | .inr (.inr (_, d)) => ringE (d == 0)

theorem kcell_inj {c c' : Dev nD} {k k' : CK} (h : kcell c k = kcell c' k') : c = c' ∧ k = k' :=
  ⟨congrArg (fun g : GSem nD τ sig => g.1.1) h, csem_injective (congrArg (fun g : GSem nD τ sig => g.2) h)⟩

theorem tokOf_injective : Function.Injective tokOf := by
  rintro ⟨c, j⟩ ⟨c', j'⟩ h
  rcases j with ⟨b, t, i⟩ | ⟨b, t⟩ | ⟨b, t⟩ <;> rcases j' with ⟨b', t', i'⟩ | ⟨b', t'⟩ | ⟨b', t'⟩ <;>
    (simp only [tokOf, Prod.mk.injEq] at h; obtain ⟨⟨⟨rfl, -⟩, hk⟩, h2, h3⟩ := h; replace hk := csem_injective hk) <;>
    simp only [Sum.inl.injEq, Sum.inr.injEq, Prod.mk.injEq, reduceCtorEq] at hk
  · obtain ⟨rfl, rfl, hp⟩ := hk
    have : t = t' := Fin.ext (by have := congrArg Fin.val hp; simp only [par] at this; omega)
    rw [this]
  · rw [hk, Fin.ext h3]
  · rw [hk, Fin.ext h3]

theorem kcells_injective : Function.Injective (fun x : Dev nD × CK => kcell x.1 x.2) := fun x y h => Prod.ext_iff.mpr (kcell_inj h)
def cells : Finset (GSem nD τ sig) := Finset.univ.map ⟨_, kcells_injective⟩
def tokens : Finset (GSem nD τ sig × ℕ × ℕ) := Finset.univ.map ⟨_, tokOf_injective⟩

/-- The write a device's hop is, of the next device's slot. -/
def wrOf : Dev nD × Fin 15 × Fin 8 → Key × ℕ := fun x => ((x.1, x.2.2, par x.2.1.val), x.2.1.val / 2)
theorem wrOf_injective : Function.Injective wrOf := by
  rintro ⟨c, h, i⟩ ⟨c', h', i'⟩ e
  simp only [wrOf, Prod.mk.injEq] at e
  obtain ⟨⟨rfl, rfl, hp⟩, hd⟩ := e
  have : h = h' := Fin.ext (by have := congrArg Fin.val hp; simp only [par] at this; omega)
  rw [this]

/-- A family over the devices and an index, each member handed to the device a permutation says. -/
theorem around {J : Type} [Fintype J] (e : J → Equiv.Perm (Dev nD)) (Φ : Dev nD → J → sProp 𝕄) :
    (bigSep Finset.univ fun c => bigSep Finset.univ fun j => Φ c j) = bigSep Finset.univ fun c => bigSep Finset.univ fun j => Φ (e j c) j := by
  rw [Pipeline.bigSep_univ_comm, Pipeline.bigSep_univ_comm (fun c j => Φ (e j c) j)]
  exact bigSep_congr fun j _ => BI.bigSep_univ_equiv (e j) (fun c => Φ c j)

/-! ## The launch element -/

/-- The kernel's own semaphores: all the cells' but the barrier's. -/
abbrev OK : Type := (Bool × Fin 8 × Fin 2) ⊕ (Bool ⊕ Unit)
def okCK : OK → CK
  | .inl x => .inl x
  | .inr (.inl b) => .inr (.inl b)
  | .inr (.inr _) => .inr (.inr true)
def osem (k : OK) : SemLoc sig := csem (okCK k)

theorem ownSemFacts : Pipeline.OwnSemFacts cfg0.spec osem where
  isScoped := by decide
  inj := csem_injective.comp (by
    rintro (x | b | u) (x' | b' | u') h <;> simp only [okCK, Sum.inl.injEq, Sum.inr.injEq, reduceCtorEq] at h
    · rw [h]
    · rw [h]
    · rfl)
  disj := by decide

def u₀ : UU :=
  (initOf (Pipeline.cells cfgs cellOf_inj) (Pipeline.launchToks cfgs cellOf_inj), (initOf cells tokens, initSlots Finset.univ 8))

def G (c : Dev nD) : sProp 𝕄 :=
  iprop((bigSep Finset.univ fun k : CK => roundState ER (Rd X Wt) (kcell c k) 0)
    ∗ (bigSep Finset.univ fun k : CK => atPos ER (kcell c k) 0 ∅ 0) ∗ (bigSep Finset.univ fun k : CK => reached ER (kcell c k) 0)
    ∗ (bigSep Finset.univ fun j : TI => dutyTok ER (tokOf (c, j)).1 (tokOf (c, j)).2.1 (tokOf (c, j)).2.2)
    ∗ (if c = (⟨0, by decide⟩ : Dev nD) then BI.own (ES (initSlots Finset.univ 8)) else iprop(emp)))

theorem fund_rings : BI.own (EX (initOf cells tokens, initSlots Finset.univ 8)) ⊢ (|==> bigSep Finset.univ (G X Wt) : sProp 𝕄) := by
  have hX (Φ : GSem nD τ sig → sProp 𝕄) : bigSep cells Φ = bigSep Finset.univ fun c : Dev nD => bigSep Finset.univ fun k : CK => Φ (kcell c k) := by
    unfold cells; rw [BI.bigSep_map, BI.bigSep_univ_prod]; rfl
  have hT : bigSep tokens (fun x => (dutyTok ER x.1 x.2.1 x.2.2 : sProp 𝕄))
      = bigSep Finset.univ fun c : Dev nD => bigSep Finset.univ fun j : TI => dutyTok ER (tokOf (c, j)).1 (tokOf (c, j)).2.1 (tokOf (c, j)).2.2 := by
    unfold tokens; rw [BI.bigSep_map, BI.bigSep_univ_prod]; rfl
  have hS : (BI.own (ES (initSlots Finset.univ 8)) : sProp 𝕄)
      ⊢ bigSep Finset.univ fun c : Dev nD => if c = (⟨0, by decide⟩ : Dev nD) then BI.own (ES (initSlots Finset.univ 8)) else iprop(emp) :=
    Entails.of_eq (only_at _ _).symm
  iintro H
  ihave H := (own_pair_emb EX _ _) $$ H
  icases H with ⟨HX, HS⟩
  imod (Rounds.fund ER (Rd X Wt) cells tokens) $$ HX with ⟨Hst, Hr, Hat, Htok⟩
  imodintro
  ihave Hst' := (Entails.of_eq (hX fun g => roundState ER (Rd X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := hS $$ HS
  unfold G; simp only [bigSep_sep']
  isplitl [Hst']; · iexact Hst'
  isplitl [Hat']; · iexact Hat'
  isplitl [Hr']; · iexact Hr'
  isplitl [Htok']; · iexact Htok'
  iexact HS'

/-! ## The global step -/

/-- The barrier semaphore is the launch's one unscoped semaphore. -/
theorem unscopedSems0_eq (c : Dev nD) : (unscopedSems0 c : sProp 𝕄) = semVal (bC c) 0 := by
  unfold unscopedSems0; rw [bigSep_eq_bigSepL_of_eq [SemLoc.reg barrier0] (by decide) (by decide)]; rfl

theorem own_split (Φ : OK → sProp 𝕄) :
    bigSep Finset.univ Φ
      = iprop(((bigSep Finset.univ fun ip : Fin 8 × Fin 2 => Φ (.inl (false, ip))) ∗ (bigSep Finset.univ fun ip : Fin 8 × Fin 2 => Φ (.inl (true, ip))))
        ∗ (Φ (.inr (.inl false)) ∗ Φ (.inr (.inl true))) ∗ Φ (.inr (.inr ()))) := by
  rw [BI.bigSep_univ_sum, BI.bigSep_univ_prod, both, BI.bigSep_univ_sum, both, bigSep_univ_eq_bigSepL [()] (by decide) (by decide)]; rfl

theorem sems0_in (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell c k) 0 : sProp 𝕄) := by
  rw [unscopedSems0_eq, cells_split]
  unfold Pipeline.ownSems0
  rw [own_split]
  iintro ⟨⟨⟨H1, H2⟩, ⟨H3, H4⟩, H5⟩, H6⟩
  isplitl [H1 H2]
  · isplitl [H1]; · iexact H1
    iexact H2
  isplitl [H3 H4]
  · isplitl [H3]; · iexact H3
    iexact H4
  isplitl [H6]; · iexact H6
  iexact H5

theorem sems0_out (c : Dev nD) :
    (bigSep Finset.univ fun k : CK => semVal (kcell c k) 0 : sProp 𝕄)
      ⊢ iprop(unscopedSems0 c ∗ Pipeline.ownSems0 (Ix := ℕ) (Name := ℕ) (U := UU) (Lvl := ℕ) (Val := Elt F) (τ := τ) osem c) := by
  rw [unscopedSems0_eq, cells_split]
  unfold Pipeline.ownSems0
  rw [own_split]
  iintro ⟨⟨H1, H2⟩, ⟨H3, H4⟩, H6, H5⟩
  isplitl [H6]; · iexact H6
  isplitl [H1 H2]
  · isplitl [H1]; · iexact H1
    iexact H2
  isplitl [H3 H4]
  · isplitl [H3]; · iexact H3
    iexact H4
  iexact H5

/-- What the global step makes of a device's share, all together. -/
def made (c : Dev nD) : sProp 𝕄 :=
  iprop((bigSep Finset.univ fun k : CK => iprop(∃ κ : ℕ, cellInv ER (Rd X Wt) κ (kcell c k)))
    ∗ (bigSep Finset.univ fun k : CK => atPos ER (kcell c k) 0 ∅ 0) ∗ (bigSep Finset.univ fun k : CK => reached ER (kcell c k) 0)
    ∗ (bigSep Finset.univ fun j : TI => dutyTok ER (tokOf (c, j)).1 (tokOf (c, j)).2.1 (tokOf (c, j)).2.2)
    ∗ (if c = (⟨0, by decide⟩ : Dev nD) then BI.own (ES (initSlots Finset.univ 8)) else iprop(emp)))

theorem core_alloc (c : Dev nD) :
    iprop(Pipeline.ownSems0 (Ix := ℕ) (Name := ℕ) (U := UU) (Lvl := ℕ) (Val := Elt F) (τ := τ) osem c ∗ unscopedSems0 c ∗ G X Wt c)
      ⊢ |={Set.univ}=> made X Wt c := by
  unfold G made
  iintro ⟨Hos, Hus, Hst, Hrest⟩
  ihave Hv := (sems0_in (F := F) c) $$ [Hos Hus]
  · isplitl [Hos] <;> iassumption
  imod (show iprop((bigSep Finset.univ fun k : CK => semVal (kcell c k) 0) ∗ bigSep Finset.univ fun k : CK => roundState ER (Rd X Wt) (kcell c k) 0)
      ⊢ (|={Set.univ}=> bigSep Finset.univ fun k => iprop(∃ κ : ℕ, cellInv ER (Rd X Wt) κ (kcell c k)) : sProp 𝕄) from by
        rw [← bigSep_sep']
        exact (bigSep_mono fun k _ => (Rounds.body_intro ER (Rd X Wt) (kcell c k)).trans inv_alloc).trans (bigSep_fupd _ _)) $$ [Hv Hst] with Hinv
  · isplitl [Hv] <;> iassumption
  imodintro
  isplitl [Hinv]; · iexact Hinv
  iexact Hrest

/-- Everything that is known, but for the levels. -/
def known (K : Dev nD × CK → ℕ) (κ : Key → ℕ) : sProp 𝕄 :=
  iprop((bigSep Finset.univ fun x : Dev nD × CK => cellInv ER (Rd X Wt) (K x) (kcell x.1 x.2))
    ∗ (bigSep Finset.univ fun k : Key => slotInv ES (κ k) k (slotOwn (recvM (lb k.2.1)) (slot k.2.2.val (ls k.2.1)) k.1))
    ∗ bigSep Finset.univ fun x : Dev nD × CK => reached ER (kcell x.1 x.2) 0)
instance known_persistent (K : Dev nD × CK → ℕ) (κ : Key → ℕ) : BI.Persistent (known X Wt K κ) := by unfold known; infer_instance

/-- What stays with device `c`: its positions, the tokens it pays with, its reading counts, the writes it makes. -/
def linear (c : Dev nD) : sProp 𝕄 :=
  iprop((bigSep Finset.univ fun k : CK => atPos ER (kcell c k) 0 ∅ 0)
    ∗ (bigSep Finset.univ fun j : TI => dutyTok ER (tokOf (payE j c, j)).1 (tokOf (payE j c, j)).2.1 (tokOf (payE j c, j)).2.2)
    ∗ (bigSep Finset.univ fun ip : Fin 8 × Fin 2 => readerAt ES (c, ip) 0)
    ∗ bigSep Finset.univ fun hi : Fin 15 × Fin 8 => writeTok ES (wrOf (ringE (lb hi.2) c, hi)).1 ((wrOf (ringE (lb hi.2) c, hi)).2 + 1))

def G' (c : Dev nD) : sProp 𝕄 := iprop(∃ K κ, known X Wt K κ ∗ linear c)

theorem G'_intro (K : Dev nD × CK → ℕ) (κ : Key → ℕ) (c : Dev nD) : iprop(known X Wt K κ ∗ linear c) ⊢ G' X Wt c := by
  unfold G'
  iintro H; iexists K; iexists κ; iexact H

theorem regroup : (bigSep Finset.univ (made X Wt) : sProp 𝕄) ⊢ |={Set.univ}=> bigSep Finset.univ (G' X Wt) := by
  have hS : (bigSep Finset.univ fun c : Dev nD => if c = (⟨0, by decide⟩ : Dev nD) then BI.own (ES (initSlots Finset.univ 8)) else iprop(emp))
      ⊢ (BI.own (ES (initSlots Finset.univ 8)) : sProp 𝕄) :=
    Entails.of_eq (only_at _ _)
  have hI : (bigSep Finset.univ fun c : Dev nD => bigSep Finset.univ fun k : CK => iprop(∃ κ : ℕ, cellInv ER (Rd X Wt) κ (kcell c k)))
      ⊢ (bigSep Finset.univ fun x : Dev nD × CK => iprop(∃ κ : ℕ, cellInv ER (Rd X Wt) κ (kcell x.1 x.2)) : sProp 𝕄) :=
    Entails.of_eq (BI.bigSep_univ_prod fun x : Dev nD × CK => iprop(∃ κ : ℕ, cellInv ER (Rd X Wt) κ (kcell x.1 x.2))).symm
  have hR : (bigSep Finset.univ fun c : Dev nD => bigSep Finset.univ fun k : CK => reached ER (kcell c k) 0)
      ⊢ (bigSep Finset.univ fun x : Dev nD × CK => reached ER (kcell x.1 x.2) 0 : sProp 𝕄) :=
    Entails.of_eq (BI.bigSep_univ_prod fun x : Dev nD × CK => (reached ER (kcell x.1 x.2) 0 : sProp 𝕄)).symm
  have hT : (bigSep Finset.univ fun c : Dev nD => bigSep Finset.univ fun j : TI => dutyTok ER (tokOf (c, j)).1 (tokOf (c, j)).2.1 (tokOf (c, j)).2.2)
      ⊢ (bigSep Finset.univ fun c : Dev nD => bigSep Finset.univ fun j : TI => dutyTok ER (tokOf (payE j c, j)).1 (tokOf (payE j c, j)).2.1 (tokOf (payE j c, j)).2.2 : sProp 𝕄) :=
    Entails.of_eq (around payE fun c j => dutyTok ER (tokOf (c, j)).1 (tokOf (c, j)).2.1 (tokOf (c, j)).2.2)
  have hRd : (bigSep Finset.univ fun k : Key => readerAt ES k 0)
      ⊢ (bigSep Finset.univ fun c : Dev nD => bigSep Finset.univ fun ip : Fin 8 × Fin 2 => readerAt ES (c, ip) 0 : sProp 𝕄) :=
    Entails.of_eq (BI.bigSep_univ_prod fun k : Key => (readerAt ES k 0 : sProp 𝕄))
  have hW : (bigSep (Finset.univ ×ˢ Finset.range 8) fun x : Key × ℕ => writeTok ES x.1 (x.2 + 1))
      ⊢ (bigSep Finset.univ fun c : Dev nD => bigSep Finset.univ fun hi : Fin 15 × Fin 8 =>
          writeTok ES (wrOf (ringE (lb hi.2) c, hi)).1 ((wrOf (ringE (lb hi.2) c, hi)).2 + 1) : sProp 𝕄) := by
    have hsub : (Finset.univ.map ⟨wrOf, wrOf_injective⟩ : Finset (Key × ℕ)) ⊆ Finset.univ ×ˢ Finset.range 8 := by
      intro x hx
      obtain ⟨⟨c, h, i⟩, -, rfl⟩ := Finset.mem_map.mp hx
      have := h.isLt
      exact Finset.mem_product.mpr ⟨Finset.mem_univ _, Finset.mem_range.mpr (show h.val / 2 < 8 by omega)⟩
    have he := around (F := F) (fun hi : Fin 15 × Fin 8 => ringE (lb hi.2)) fun c hi => writeTok ES (wrOf (c, hi)).1 ((wrOf (c, hi)).2 + 1)
    rw [← he, ← BI.bigSep_univ_prod (fun x : Dev nD × Fin 15 × Fin 8 => (writeTok ES (wrOf x).1 ((wrOf x).2 + 1) : sProp 𝕄))]
    have hm : bigSep (Finset.univ.map ⟨wrOf, wrOf_injective⟩) (fun x : Key × ℕ => (writeTok ES x.1 (x.2 + 1) : sProp 𝕄))
        = bigSep Finset.univ fun x : Dev nD × Fin 15 × Fin 8 => writeTok ES (wrOf x).1 ((wrOf x).2 + 1) := by rw [BI.bigSep_map]; rfl
    rw [← hm]
    exact bigSep_subset hsub
  unfold made
  rw [bigSep_sep', bigSep_sep', bigSep_sep', bigSep_sep']
  iintro ⟨HI, Hat, HR, HT, HS⟩
  ihave HS := hS $$ HS
  imod (slots_init ES Finset.univ 8 (fun k : Key => slotOwn (F := F) (recvM (lb k.2.1)) (slot k.2.2.val (ls k.2.1)) k.1)) $$ HS with ⟨%κ, -, #Hκ, Hrd, Hw⟩
  ihave HI := hI $$ HI
  ihave HK := (BI.bigSep_exists_pi Finset.univ (fun (x : Dev nD × CK) (κ : ℕ) => (cellInv ER (Rd X Wt) κ (kcell x.1 x.2) : sProp 𝕄))) $$ HI
  icases HK with ⟨%K, #HK⟩
  ihave #HR := hR $$ HR
  ihave HT := hT $$ HT
  ihave Hrd := hRd $$ Hrd
  ihave Hw := hW $$ Hw
  imodintro
  iapply (bigSep_with_persistent (R := known X Wt K κ) fun c _ => G'_intro X Wt K κ c)
  isplitr
  · unfold known
    isplitr; · iexact HK
    isplitr; · iexact Hκ
    iexact HR
  · unfold linear
    rw [bigSep_sep', bigSep_sep', bigSep_sep']
    isplitl [Hat]; · iexact Hat
    isplitl [HT]; · iexact HT
    isplitl [Hrd]; · iexact Hrd
    iexact Hw

theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) := by
  have h : (bigSep Finset.univ fun c => iprop(Pipeline.ownSems0 (Ix := ℕ) (Name := ℕ) (U := UU) (Lvl := ℕ) (Val := Elt F) (τ := τ) osem c ∗ unscopedSems0 c ∗ G X Wt c) : sProp 𝕄)
      ⊢ |={Set.univ}=> bigSep Finset.univ (made X Wt) := (bigSep_mono fun c _ => core_alloc X Wt c).trans (bigSep_fupd _ _)
  iintro H
  imod h $$ H with H
  iapply (regroup X Wt); iexact H

/-! ## A device's tokens, sorted -/

theorem toks_sorted (c : Dev nD) :
    iprop((bigSep Finset.univ fun j : TI => dutyTok ER (tokOf (payE j c, j)).1 (tokOf (payE j c, j)).2.1 (tokOf (payE j c, j)).2.2)
        ∗ bigSep Finset.univ fun hi : Fin 15 × Fin 8 => writeTok ES (wrOf (ringE (lb hi.2) c, hi)).1 ((wrOf (ringE (lb hi.2) c, hi)).2 + 1))
      ⊢ (iprop((bigSep (Finset.Ico 0 15) fun h => all (Pend c h)) ∗ bigSep (Finset.Ico 0 13) (Ctok c)
          ∗ (dutyTok ER (bC (dst false c)) 0 1 ∗ dutyTok ER (bC (dst true c)) 0 0)
          ∗ (dutyTok ER (zC (dst false c)) 0 1 ∗ dutyTok ER (zC (dst true c)) 0 0)) : sProp 𝕄) := by
  have hP : iprop((bigSep Finset.univ fun hi : Fin 15 × Fin 8 => dutyTok ER (sC hi.2 hi.1.val c) (hi.1.val / 2) 0)
        ∗ (bigSep Finset.univ fun hi : Fin 15 × Fin 8 => dutyTok ER (rC hi.2 hi.1.val (dst (lb hi.2) c)) (hi.1.val / 2) 0)
        ∗ bigSep Finset.univ fun hi : Fin 15 × Fin 8 => writeTok ES (dst (lb hi.2) c, hi.2, par hi.1.val) (hi.1.val / 2 + 1))
      ⊢ (bigSep (Finset.Ico 0 15) fun h => all (Pend c h) : sProp 𝕄) := by
    rw [← bigSep_sep', ← bigSep_sep', ← hops_split]
    exact Entails.of_eq (bigSep_congr fun hi _ => by unfold Pend; rw [Nat.add_comm 1])
  have hC : iprop((bigSep Finset.univ fun j : Fin 13 => dutyTok ER (cC false (dst true c)) 0 j.val)
        ∗ (bigSep Finset.univ fun j : Fin 13 => dutyTok ER (cC true (dst false c)) 0 j.val))
      ⊢ (bigSep (Finset.Ico 0 13) (Ctok c) : sProp 𝕄) := by
    rw [← bigSep_sep', ← Finset.range_eq_Ico, ← Ring.bigSep_fin_eq_range 13 (fun j => Ctok c j.val) (Ctok c) (fun _ _ => rfl)]
    exact Entails.of_eq rfl
  rw [toks_split]
  iintro ⟨⟨⟨Hs, Hr⟩, ⟨Hc1, Hc2⟩, ⟨Hb0, Hb1⟩, Hz0, Hz1⟩, Hw⟩
  isplitl [Hs Hr Hw]
  · iapply hP
    isplitl [Hs]; · iexact Hs
    isplitl [Hr]; · iexact Hr
    iexact Hw
  isplitl [Hc1 Hc2]
  · iapply hC
    isplitl [Hc1]; · iexact Hc1
    iexact Hc2
  isplitl [Hb0 Hb1]
  · isplitl [Hb1]; · iexact Hb1
    iexact Hb0
  isplitl [Hz1]; · iexact Hz1
  iexact Hz0

/-! ## The launch's credit -/

theorem steps_split (Φ : ℕ → Fin 8 → sProp 𝕄) :
    (bigSep (Finset.Ico 0 120) fun k => Φ (k / 8) (lane k)) = bigSep (Finset.Ico 0 15) fun h => all (Φ h) := by
  rw [← hops_split, ← Finset.range_eq_Ico,
    ← Ring.bigSep_fin_eq_range 120 (fun k => Φ (k.val / 8) (lane k.val)) (fun k => Φ (k / 8) (lane k)) (fun _ _ => rfl),
    BI.bigSep_univ_equiv (finProdFinEquiv : Fin 15 × Fin 8 ≃ Fin (15 * 8))]
  refine bigSep_congr fun hi _ => ?_
  have h1 : (finProdFinEquiv hi).val = hi.2.val + 8 * hi.1.val := rfl
  have h2 := hi.2.isLt
  rw [h1, show (hi.2.val + 8 * hi.1.val) / 8 = hi.1.val by omega,
    show lane (hi.2.val + 8 * hi.1.val) = hi.2 from Fin.ext (by simp only [lane]; omega)]

theorem two_units (g : GSem nD τ sig) (ι : ℕ) : iprop(cred (tallyAt g ι 1) ∗ cred (tallyAt g ι 1)) ⊢ (cred (tallyAt g ι 2) : sProp 𝕄) := by
  have h : (tallyAt g ι 2 : CellTallies nD τ sig ℕ) = tallyAt g ι 1 + tallyAt g ι 1 := (tallyAt_add g ι 1 1).symm
  rw [h]; exact (cred_add _ _).2

theorem cred_of (k : CK) (b : Bool) (ι n : ℕ) (c : Dev nD) :
    (Pipeline.launchCred (fun d => tallyAt (kcell (dst b d) k) ι n) c : sProp 𝕄) ⊢ cred (tallyAt (kcell c k) ι n) :=
  Pipeline.launchCred_tallyAt (csem k) (dst b) (dst (!b)) (fun d => dst_dst b d) (fun d => dst_dst' b d) ι n c

theorem creds (c : Dev nD) :
    (Pipeline.launchCred O₀ c : sProp 𝕄) ⊢ iprop((bigSep (Finset.Ico 0 15) fun h => all (Rcr c h)) ∗ bigSep (Finset.Ico 0 13) (Ccr c)
      ∗ cred (tallyAt (bC c) 1 2) ∗ cred (tallyAt (zC c) 100 2)) := by
  have e : O₀ = fun d => ((tallyAt (zC (dst true d)) 100 1 + tallyAt (zC (dst false d)) 100 1)
      + ((∑ k ∈ Finset.Ico 0 120, owedSend d k) + ∑ k ∈ Finset.Ico 0 13, (owedCred d true k + owedCred d false k))
      + tallyAt (bC (dst true d)) 1 1) + tallyAt (bC (dst false d)) 1 1 := rfl
  have hs : (bigSep (Finset.Ico 0 120) fun k => (Pipeline.launchCred (fun d => owedSend d k) c : sProp 𝕄))
      ⊢ bigSep (Finset.Ico 0 15) fun h => all (Rcr c h) := by
    rw [← steps_split]
    exact bigSep_mono fun k _ => cred_of (.inl (true, lane k, par (k / 8))) (lb (lane k)) (ixHop (k / 8)) N c
  have hc : (bigSep (Finset.Ico 0 13) fun k => (Pipeline.launchCred (fun d => owedCred d true k + owedCred d false k) c : sProp 𝕄))
      ⊢ bigSep (Finset.Ico 0 13) (Ccr c) := by
    refine bigSep_mono fun k _ => ?_
    rw [Pipeline.launchCred_add]
    unfold Ccr
    show iprop(Pipeline.launchCred (fun d => owedCred d true k) c ∗ Pipeline.launchCred (fun d => owedCred d false k) c)
      ⊢ iprop(cred (tallyAt (cC false c) (ixCred k) 1) ∗ cred (tallyAt (cC true c) (ixCred k) 1))
    iintro ⟨H1, H2⟩
    isplitl [H2]
    · iapply (cred_of (.inr (.inl false)) true (ixCred k) 1 c); iexact H2
    · iapply (cred_of (.inr (.inl true)) false (ixCred k) 1 c); iexact H1
  rw [e, Pipeline.launchCred_add, Pipeline.launchCred_add, Pipeline.launchCred_add, Pipeline.launchCred_add, Pipeline.launchCred_add,
    Pipeline.launchCred_sum, Pipeline.launchCred_sum]
  iintro ⟨⟨⟨⟨Hz1, Hz2⟩, Hs, Hc⟩, Hb1⟩, Hb2⟩
  isplitl [Hs]; · iapply hs; iexact Hs
  isplitl [Hc]; · iapply hc; iexact Hc
  isplitl [Hb1 Hb2]
  · iapply two_units
    isplitl [Hb1]
    · iapply (cred_of (.inr (.inr false)) true 1 1 c); iexact Hb1
    · iapply (cred_of (.inr (.inr false)) false 1 1 c); iexact Hb2
  · iapply two_units
    isplitl [Hz1]
    · iapply (cred_of (.inr (.inr true)) true 100 1 c); iexact Hz1
    · iapply (cred_of (.inr (.inr true)) false 100 1 c); iexact Hz2

end Cert.Proof

end
-- ==== Proof.Ends.lean ====
/-
  The two ends of a device's body: what it starts with, gathered from the launch's share and the scratch
  buffers, and what it leaves, with every cell closed and the buffers whole again; and the result
  buffer's contents in one expression.
-/
module

public import proofs.«01_k».proof.Proof.Deal

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (K : Dev nD × CK → ℕ) (κ : Key → ℕ)

/-! ## A buffer and its slots -/

theorem mem_slotR (k : Fin 8) (j : S8x256x1024.Idx) : j ∈ (slotR k).set ↔ j 0 = k := by
  rw [Rect.mem_set_unit]
  constructor
  · intro h
    have h0 := h 0
    have h1 : (j 0).val < k.val + 1 := h0.2
    have h2 : k.val ≤ (j 0).val := h0.1
    exact Fin.ext (by omega)
  · rintro rfl a
    fin_cases a
    · exact ⟨le_rfl, Nat.lt_succ_self _⟩
    · exact ⟨Nat.zero_le _, by have := (j 1).isLt; show (j 1).val < 0 + 256; rw [Nat.zero_add]; exact this⟩
    · exact ⟨Nat.zero_le _, by have := (j 2).isLt; show (j 2).val < 0 + 1024; rw [Nat.zero_add]; exact this⟩

theorem slots_disjoint (M : Memref sig .tc .vmem S8x256x1024 .bf16) :
    ∀ k ∈ (Finset.univ : Finset (Fin 8)), ∀ k' ∈ (Finset.univ : Finset (Fin 8)), k ≠ k' → Disjoint (slotSet M k) (slotSet M k') := by
  intro k _ k' _ hk
  rw [slotSet_eq, slotSet_eq, View.set_slice, View.set_slice, Finset.disjoint_map]
  exact Finset.disjoint_left.mpr fun j h h' => hk (((mem_slotR k j).mp h).symm.trans ((mem_slotR k' j).mp h'))

theorem slots_union (M : Memref sig .tc .vmem S8x256x1024 .bf16) (hM : M.view.set = Finset.univ) :
    (Finset.univ : Finset (Fin 8)).biUnion (slotSet M) = Finset.univ := by
  rw [← hM]
  ext i
  rw [Finset.mem_biUnion, View.set, Finset.mem_map]
  constructor
  · rintro ⟨k, -, hk⟩
    rw [slotSet_eq, View.set_slice, Finset.mem_map] at hk
    obtain ⟨j, -, e⟩ := hk
    exact ⟨j, Finset.mem_univ _, e⟩
  · rintro ⟨j, -, e⟩
    obtain ⟨k, hk⟩ : ∃ k : Fin 8, j 0 = k := ⟨j 0, rfl⟩
    refine ⟨k, Finset.mem_univ _, ?_⟩
    rw [slotSet_eq, View.set_slice, Finset.mem_map]
    exact ⟨j, (mem_slotR k j).mpr hk, e⟩

theorem slots_cut (M : Memref sig .tc .vmem S8x256x1024 .bf16) (hM : M.view.set = Finset.univ) (c : Dev nD) :
    (iprop(∃ f, M.view.loc (c : Thread nD τ) ↦{fullShare} f) : sProp 𝕄) ⊢ bigSep Finset.univ fun k : Fin 8 => slotOwn M k c := by
  have h (f : Buf (Elt F) (M.view.loc (c : Thread nD τ))) :
      (M.view.loc (c : Thread nD τ) ↦{fullShare} f : sProp 𝕄) = bigSep Finset.univ fun k : Fin 8 => M.view.loc (c : Thread nD τ) ↦[slotSet M k]{fullShare} f := by
    have e := pointsTo_biUnion (ℓ := M.view.loc (c : Thread nD τ)) (q := fullShare) (f := f) (Ix := ℕ) (Name := ℕ) (U := UU) (Lvl := ℕ)
      Finset.univ (slotSet M) (slots_disjoint M)
    rw [slots_union M hM] at e
    exact e
  have hm (f : Buf (Elt F) (M.view.loc (c : Thread nD τ))) :
      (bigSep Finset.univ fun k : Fin 8 => (M.view.loc (c : Thread nD τ) ↦[slotSet M k]{fullShare} f : sProp 𝕄)) ⊢ bigSep Finset.univ fun k : Fin 8 => slotOwn M k c :=
    bigSep_mono fun k _ => (show (M.view.loc (c : Thread nD τ) ↦[slotSet M k]{fullShare} f : sProp 𝕄) ⊢ slotOwn M k c from by
      unfold slotOwn Release.slot; iintro H; iexists f; iexact H)
  iintro ⟨%f, H⟩
  iapply (hm f)
  rw [← h f]; iexact H

theorem slots_join (M : Memref sig .tc .vmem S8x256x1024 .bf16) (hM : M.view.set = Finset.univ) (c : Dev nD) :
    (bigSep Finset.univ fun k : Fin 8 => slotOwn M k c) ⊢ (iprop(∃ f, M.view.loc (c : Thread nD τ) ↦{fullShare} f) : sProp 𝕄) := by
  have h0 : (bigSep Finset.univ fun k : Fin 8 => slotOwn M k c)
      ⊢ (iprop(∃ fs : Fin 8 → Buf (Elt F) (M.view.loc (c : Thread nD τ)), bigSep Finset.univ fun k : Fin 8 => M.view.loc (c : Thread nD τ) ↦[slotSet M k]{fullShare} fs k) : sProp 𝕄) := by
    unfold slotOwn Release.slot
    exact BI.bigSep_exists_pi Finset.univ fun (k : Fin 8) (f : Buf (Elt F) (M.view.loc (c : Thread nD τ))) => (M.view.loc (c : Thread nD τ) ↦[slotSet M k]{fullShare} f : sProp 𝕄)
  iintro H
  ihave H := h0 $$ H
  icases H with ⟨%fs, H⟩
  ihave H := (pointsTo_biUnion_join Finset.univ (slotSet M) fs (fs 0) (slots_disjoint M)) $$ H
  icases H with ⟨%g, -, H⟩
  iexists g
  rw [slots_union M hM]; iexact H

/-- Parities and lanes against rings and slots. -/
def pairE : Fin 2 × Fin 8 ≃ Bool × Fin 8 :=
  Equiv.ofBijective (fun x => (lb x.2, slot x.1.val (ls x.2))) (by decide)
theorem slots_sorted (Ψ : Bool → Fin 8 → sProp 𝕄) :
    iprop((bigSep Finset.univ fun k => Ψ false k) ∗ bigSep Finset.univ fun k => Ψ true k)
      = iprop((all fun i => Ψ (lb i) (slot 0 (ls i))) ∗ all fun i => Ψ (lb i) (slot 1 (ls i))) := by
  rw [← both fun b => bigSep Finset.univ fun k => Ψ b k, ← BI.bigSep_univ_prod (fun x : Bool × Fin 8 => Ψ x.1 x.2), BI.bigSep_univ_equiv pairE,
    BI.bigSep_univ_prod, both2]
  rfl

/-- A pair of buffers, one per ring, as every lane's two slots. -/
theorem bufs_in (M : Bool → Memref sig .tc .vmem S8x256x1024 .bf16) (hM : ∀ b, (M b).view.set = Finset.univ) (c : Dev nD) :
    iprop((∃ f, (M false).view.loc (c : Thread nD τ) ↦{fullShare} f) ∗ (∃ f, (M true).view.loc (c : Thread nD τ) ↦{fullShare} f))
      ⊢ (iprop((all fun i => slotOwn (M (lb i)) (slot 0 (ls i)) c) ∗ all fun i => slotOwn (M (lb i)) (slot 1 (ls i)) c) : sProp 𝕄) := by
  rw [← slots_sorted fun b k => slotOwn (M b) k c]
  exact BI.sep_mono (slots_cut (M false) (hM false) c) (slots_cut (M true) (hM true) c)
theorem bufs_out (M : Bool → Memref sig .tc .vmem S8x256x1024 .bf16) (hM : ∀ b, (M b).view.set = Finset.univ) (c : Dev nD) :
    (iprop((all fun i => slotOwn (M (lb i)) (slot 0 (ls i)) c) ∗ all fun i => slotOwn (M (lb i)) (slot 1 (ls i)) c) : sProp 𝕄)
      ⊢ iprop((∃ f, (M false).view.loc (c : Thread nD τ) ↦{fullShare} f) ∗ (∃ f, (M true).view.loc (c : Thread nD τ) ↦{fullShare} f)) := by
  rw [← slots_sorted fun b k => slotOwn (M b) k c]
  exact BI.sep_mono (slots_join (M false) (hM false) c) (slots_join (M true) (hM true) c)

theorem sendM_set (b : Bool) : (sendM b).view.set = Finset.univ := by cases b <;> exact View.set_whole _
theorem recvM_set (b : Bool) : (recvM b).view.set = Finset.univ := by cases b <;> exact View.set_whole _

/-! ## The start -/

/-- A device's credit, as the launch deals it. -/
def credit (c : Dev nD) : sProp 𝕄 :=
  iprop((bigSep (Finset.Ico 0 15) fun h => all (Rcr c h)) ∗ bigSep (Finset.Ico 0 13) (Ccr c)
    ∗ cred (tallyAt (bC c) 1 2) ∗ cred (tallyAt (zC c) 100 2))
/-- The four travelling buffers. -/
def travel (c : Dev nD) : sProp 𝕄 :=
  iprop((∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))

theorem ctx_of : iprop(known X Wt K κ ∗ (levAts L lv : sProp 𝕄)) ⊢ ctx X Wt K κ := by
  unfold known ctx
  iintro ⟨⟨#H1, #H2, #H3⟩, #H4⟩
  isplitr; · iexact H1
  isplitr; · iexact H2
  isplitr; · iexact H4
  iexact H3

theorem free_of (c : Dev nD) (h : ℕ) (hh : h < 2) :
    iprop(ctx X Wt K κ ∗ (all fun i => slotOwn (sendM (lb i)) (slot h (ls i)) c) ∗ all fun i => atPos ER (sC i h c) 0 ∅ 0)
      ⊢ (all (Free c h) : sProp 𝕄) := by
  have hi (i : Fin 8) : iprop(ctx X Wt K κ ∗ slotOwn (sendM (lb i)) (slot h (ls i)) c ∗ atPos ER (sC i h c) 0 ∅ 0) ⊢ (Free c h i : sProp 𝕄) := by
    have hr := ctx_reached X Wt K κ c (.inl (false, i, par h))
    unfold Free
    rw [show h / 2 = 0 by omega]
    iintro ⟨#Hctx, H1, H2⟩
    isplitl [H1]; · iexact H1
    isplitl [H2]; · iexact H2
    iapply hr; iexact Hctx
  show iprop(ctx X Wt K κ ∗ bigSep _ _ ∗ bigSep _ _) ⊢ bigSep _ _
  rw [← bigSep_sep']
  exact bigSep_with_persistent fun i _ => hi i
theorem raw_of (c : Dev nD) (h : ℕ) :
    iprop((all fun i => slotOwn (recvM (lb i)) (slot h (ls i)) c) ∗ (all fun i => atPos ER (rC i h c) 0 ∅ 0) ∗ all fun i => readerAt ES (c, i, par h) 0)
      ⊢ (all (Raw c h) : sProp 𝕄) := by
  show iprop(bigSep _ _ ∗ bigSep _ _ ∗ bigSep _ _) ⊢ bigSep _ _
  rw [← bigSep_sep', ← bigSep_sep']
  exact Entails.of_eq rfl

theorem begin_of (c : Dev nD) :
    iprop(ctx X Wt K κ ∗ linear c ∗ credit c ∗ travel c ∗ owesE c (O₀ c)) ⊢ (Begin c : sProp 𝕄) := by
  have hs := bufs_in (F := F) sendM sendM_set c
  have hr := bufs_in (F := F) recvM recvM_set c
  have ht := toks_sorted (F := F) c
  unfold linear credit travel
  rw [cells_split (F := F) fun k => atPos ER (kcell c k) 0 ∅ 0,
    pairs_split (F := F) fun ip => atPos ER (kcell c (.inl (false, ip))) 0 ∅ 0,
    pairs_split (F := F) fun ip => atPos ER (kcell c (.inl (true, ip))) 0 ∅ 0,
    pairs_split (F := F) fun ip => readerAt ES (c, ip) 0]
  iintro ⟨#Hctx, ⟨⟨⟨⟨Hs0, Hs1⟩, Hr0, Hr1⟩, ⟨Hc0, Hc1⟩, Hb, Hz⟩, Htok, ⟨Hq0, Hq1⟩, Hwr⟩, ⟨Hrcr, Hccr, Hcb, Hcz⟩, ⟨B2, B3, B4, B5⟩, HO⟩
  ihave HS := hs $$ [B2 B4]
  · isplitl [B2]; · iexact B2
    iexact B4
  icases HS with ⟨HS0, HS1⟩
  ihave HR := hr $$ [B3 B5]
  · isplitl [B3]; · iexact B3
    iexact B5
  icases HR with ⟨HR0, HR1⟩
  ihave HT := ht $$ [Htok Hwr]
  · isplitl [Htok]; · iexact Htok
    iexact Hwr
  icases HT with ⟨HP, HC, ⟨Hb1, Hb0⟩, Hz1, Hz0⟩
  unfold Begin two
  isplitl [HS0 Hs0]
  · iapply (free_of X Wt K κ c 0 (by decide))
    isplitr; · iexact Hctx
    isplitl [HS0]; · iexact HS0
    iexact Hs0
  isplitl [HS1 Hs1]
  · iapply (free_of X Wt K κ c 1 (by decide))
    isplitr; · iexact Hctx
    isplitl [HS1]; · iexact HS1
    iexact Hs1
  isplitl [HR0 Hr0 Hq0]
  · iapply (raw_of (F := F) c 0)
    isplitl [HR0]; · iexact HR0
    isplitl [Hr0]; · iexact Hr0
    iexact Hq0
  isplitl [HR1 Hr1 Hq1]
  · iapply (raw_of (F := F) c 1)
    isplitl [HR1]; · iexact HR1
    isplitl [Hr1]; · iexact Hr1
    iexact Hq1
  isplitl [HP]; · iexact HP
  isplitl [Hrcr]; · iexact Hrcr
  isplitl [HC]; · iexact HC
  isplitl [Hccr]; · iexact Hccr
  isplitl [Hc0]; · iexact Hc0
  isplitl [Hc1]; · iexact Hc1
  isplitl [Hb Hcb Hb1 Hb0]
  · isplitl [Hb]; · iexact Hb
    isplitl [Hcb]; · iexact Hcb
    isplitl [Hb1]; · iexact Hb1
    iexact Hb0
  isplitl [Hz Hcz Hz1 Hz0]
  · isplitl [Hz]; · iexact Hz
    isplitl [Hcz]; · iexact Hcz
    isplitl [Hz1]; · iexact Hz1
    iexact Hz0
  iexact HO

/-! ## The end -/

theorem close_cell (c : Dev nD) (k : CK) (r : ℕ) (hr : match k with | .inl (_, _, p) => 15 ≤ hopAt p r | .inr _ => 1 ≤ r) :
    iprop(ctx X Wt K κ ∗ atPos ER (kcell c k) r ∅ 0) ⊢ (|={Set.univ}=> semVal (kcell c k) 0 : sProp 𝕄) := by
  have hc := ctx_cell X Wt K κ c k
  have h := Rounds.cell_close ER (Rd X Wt) (g := kcell c k) (Set.mem_univ (K (c, k))) (fun h => h) (R := r) (duties_end X Wt c k r hr)
  iintro ⟨#Hctx, Hat⟩
  iapply h
  isplitr; · iapply hc; iexact Hctx
  iexact Hat

theorem close_all (c : Dev nD) (b : Bool) (p : Fin 2) (r : ℕ) (hr : 15 ≤ hopAt p r) :
    iprop(ctx X Wt K κ ∗ all fun i => atPos ER (kcell c (.inl (b, i, p))) r ∅ 0)
      ⊢ (|={Set.univ}=> all fun i => semVal (kcell c (.inl (b, i, p))) 0 : sProp 𝕄) :=
  (bigSep_with_persistent fun i _ => close_cell X Wt K κ c (.inl (b, i, p)) r hr).trans (bigSep_fupd _ _)

theorem free_end (c : Dev nD) (h : ℕ) :
    (all (Free c h) : sProp 𝕄) ⊢ iprop((all fun i => slotOwn (sendM (lb i)) (slot h (ls i)) c) ∗ all fun i => atPos ER (sC i h c) (h / 2) ∅ 0) := by
  have hi (i : Fin 8) : (Free c h i : sProp 𝕄) ⊢ iprop(slotOwn (sendM (lb i)) (slot h (ls i)) c ∗ atPos ER (sC i h c) (h / 2) ∅ 0) := by
    unfold Free
    iintro ⟨H1, H2, -⟩
    isplitl [H1]; · iexact H1
    iexact H2
  show bigSep _ _ ⊢ iprop(bigSep _ _ ∗ bigSep _ _)
  rw [← bigSep_sep']
  exact bigSep_mono fun i _ => hi i
theorem got_end (c : Dev nD) (h : ℕ) :
    (all (Got c h) : sProp 𝕄) ⊢ iprop((all fun i => slotOwn (recvM (lb i)) (slot h (ls i)) c) ∗ all fun i => atPos ER (rC i h c) (h / 2 + 1) ∅ 0) := by
  have hi (i : Fin 8) : (Got c h i : sProp 𝕄) ⊢ iprop(slotOwn (recvM (lb i)) (slot h (ls i)) c ∗ atPos ER (rC i h c) (h / 2 + 1) ∅ 0) := by
    unfold Got
    iintro ⟨H1, H2, -⟩
    isplitl [H1]; · iexact H1
    iexact H2
  show bigSep _ _ ⊢ iprop(bigSep _ _ ∗ bigSep _ _)
  rw [← bigSep_sep']
  exact bigSep_mono fun i _ => hi i

theorem end_of (c : Dev nD) :
    iprop(ctx X Wt K κ ∗ End X Wt c)
      ⊢ (|={Set.univ}=> ((bigSep Finset.univ fun k : CK => semVal (kcell c k) 0) ∗ travel c ∗ ops X Wt c ∗ owesE c 0) : sProp 𝕄) := by
  have hs := bufs_out (F := F) sendM sendM_set c
  have hr := bufs_out (F := F) recvM recvM_set c
  unfold End travel
  rw [cells_split (F := F) fun k => semVal (kcell c k) 0,
    pairs_split (F := F) fun ip => semVal (kcell c (.inl (false, ip))) 0,
    pairs_split (F := F) fun ip => semVal (kcell c (.inl (true, ip))) 0]
  iintro ⟨#Hctx, Hf15, Hf16, Hg13, Hg14, Hc0, Hc1, Hb, Hz, Hops, HO⟩
  ihave Hf := (free_end (F := F) c 15) $$ Hf15
  icases Hf with ⟨S1, A1⟩
  ihave Hf := (free_end (F := F) c 16) $$ Hf16
  icases Hf with ⟨S0, A0⟩
  ihave Hg := (got_end (F := F) c 13) $$ Hg13
  icases Hg with ⟨R1, D1⟩
  ihave Hg := (got_end (F := F) c 14) $$ Hg14
  icases Hg with ⟨R0, D0⟩
  ihave HS := hs $$ [S0 S1]
  · isplitl [S0]; · iexact S0
    iexact S1
  icases HS with ⟨B2, B4⟩
  ihave HR := hr $$ [R0 R1]
  · isplitl [R0]; · iexact R0
    iexact R1
  icases HR with ⟨B3, B5⟩
  imod (close_all X Wt K κ c false 0 8 (by decide)) $$ [A0] with A0
  · isplitr; · iexact Hctx
    iexact A0
  imod (close_all X Wt K κ c false 1 7 (by decide)) $$ [A1] with A1
  · isplitr; · iexact Hctx
    iexact A1
  imod (close_all X Wt K κ c true 0 8 (by decide)) $$ [D0] with D0
  · isplitr; · iexact Hctx
    iexact D0
  imod (close_all X Wt K κ c true 1 7 (by decide)) $$ [D1] with D1
  · isplitr; · iexact Hctx
    iexact D1
  imod (close_cell X Wt K κ c (.inr (.inl false)) 1 le_rfl) $$ [Hc0] with Hc0
  · isplitr; · iexact Hctx
    iexact Hc0
  imod (close_cell X Wt K κ c (.inr (.inl true)) 1 le_rfl) $$ [Hc1] with Hc1
  · isplitr; · iexact Hctx
    iexact Hc1
  imod (close_cell X Wt K κ c (.inr (.inr false)) 1 le_rfl) $$ [Hb] with Hb
  · isplitr; · iexact Hctx
    iexact Hb
  imod (close_cell X Wt K κ c (.inr (.inr true)) 1 le_rfl) $$ [Hz] with Hz
  · isplitr; · iexact Hctx
    iexact Hz
  imodintro
  isplitl [A0 A1 D0 D1 Hc0 Hc1 Hb Hz]
  · isplitl [A0 A1 D0 D1]
    · isplitl [A0 A1]
      · isplitl [A0]; · iexact A0
        iexact A1
      isplitl [D0]; · iexact D0
      iexact D1
    isplitl [Hc0 Hc1]
    · isplitl [Hc0]; · iexact Hc0
      iexact Hc1
    isplitl [Hb]; · iexact Hb
    iexact Hz
  isplitl [B2 B3 B4 B5]
  · isplitl [B2]; · iexact B2
    isplitl [B3]; · iexact B3
    isplitl [B4]; · iexact B4
    iexact B5
  isplitl [Hops]; · iexact Hops
  iexact HO

/-! ## The result buffer -/

/-- The lane a column belongs to, and its place among the lane's columns. -/
def colB (j : S256x8192.Idx) : Bool := decide (4096 ≤ (j 1).val)
def colS (j : S256x8192.Idx) : Fin 4 := ⟨(j 1).val % 4096 / 1024, by omega⟩
def colI (j : S256x8192.Idx) : S256x1024.Idx := fun a => match a with
  | ⟨0, _⟩ => ⟨(j 0).val, (j 0).isLt⟩
  | ⟨1, _⟩ => ⟨(j 1).val % 1024, Nat.mod_lt _ (by decide)⟩

/-- Device `c`'s result: every column the scaled positive part of its lane's last sum. -/
def outC (a : F .f32) (c : Dev nD) : (cc0_stg4_0 : Ref sig .tc).ty.Contents (Elt F) := fun j =>
  fin a (total X Wt (colB j) 15 c (colS j)) (colI j)

theorem out_emb (b : Bool) (s : Fin 4) (x : S256x1024.Idx) (a : Fin 2) :
    ((oM.access (outR b s) : View sig .tc _ _ _).emb x a).val = (![0, (bif b then 4096 else 0) + 1024 * s.val] : Fin 2 → ℕ) a + (x a).val :=
  congrArg ((![0, (bif b then 4096 else 0) + 1024 * s.val] : Fin 2 → ℕ) a + ·) (Nat.one_mul (x a).val)

theorem out_write (b : Bool) (s : Fin 4) (f : (cc0_stg4_0 : Ref sig .tc).ty.Contents (Elt F)) (v : FVec F S256x1024 .f32) (j : S256x8192.Idx) :
    (oM.access (outR b s) : View sig .tc _ _ _).write (Elt F) f v Finset.univ j = if colB j = b ∧ colS j = s then v (colI j) else f j := by
  have hj : (j 1).val < 8192 := (j 1).isLt
  split
  · rename_i h
    obtain ⟨rfl, rfl⟩ := h
    have e : (oM.access (outR (colB j) (colS j)) : View sig .tc _ _ _).emb (colI j) = j := funext fun a => Fin.ext (by
      rw [out_emb]
      fin_cases a
      · show 0 + (j 0).val = (j 0).val; omega
      · show (bif decide (4096 ≤ (j 1).val) then 4096 else 0) + 1024 * ((j 1).val % 4096 / 1024) + (j 1).val % 1024 = (j 1).val
        by_cases h : 4096 ≤ (j 1).val
        · rw [decide_eq_true h, cond_true]; omega
        · rw [decide_eq_false h, cond_false]; omega)
    have h := View.write_emb_of_mem (v := (oM.access (outR (colB j) (colS j)) : View sig .tc _ _ _)) f v (Finset.mem_univ (colI j))
    rw [e] at h
    exact h
  · rename_i h
    refine View.write_of_not_mem _ _ _ fun hm => h ?_
    obtain ⟨x, -, e⟩ := Finset.mem_map.mp hm
    have h1 := out_emb b s x 1
    have h2 : (j 1).val = (bif b then 4096 else 0) + 1024 * s.val + (x 1).val := by rw [← e]; exact h1
    have hx : (x 1).val < 1024 := (x 1).isLt
    have hs := s.isLt
    constructor
    · unfold colB
      cases b
      · rw [cond_false] at h2; exact decide_eq_false (by omega)
      · rw [cond_true] at h2; exact decide_eq_true (by omega)
    · apply Fin.ext
      show (j 1).val % 4096 / 1024 = s.val
      cases b
      · rw [cond_false] at h2; omega
      · rw [cond_true] at h2; omega

/-- The number of a column's lane. -/
def colN (j : S256x8192.Idx) : ℕ := 2 * (colS j).val + (bif colB j then 1 else 0)

theorem colN_iff (j : S256x8192.Idx) (n : ℕ) (hn : n < 8) : (colB j = lb (lane n) ∧ colS j = ls (lane n)) ↔ colN j = n := by
  have h : ∀ (b : Bool) (s : Fin 4) (n : Fin 8), (b = lb (lane n.val) ∧ s = ls (lane n.val)) ↔ 2 * s.val + (bif b then 1 else 0) = n.val := by decide
  exact h _ _ ⟨n, hn⟩

theorem outW_eq (a : F .f32) (c : Dev nD) (f : (cc0_stg4_0 : Ref sig .tc).ty.Contents (Elt F)) (n : ℕ) (hn : n ≤ 8) (j : S256x8192.Idx) :
    outW X Wt a c f n j = if colN j < n then outC X Wt a c j else f j := by
  induction n with
  | zero => rw [if_neg (Nat.not_lt_zero _)]; rfl
  | succ n ih =>
    rw [outW, out_write, ih (by omega)]
    by_cases h : colN j = n
    · obtain ⟨h1, h2⟩ := (colN_iff j n (by omega)).mpr h
      rw [if_pos ⟨h1, h2⟩, if_pos (by omega), ← h1, ← h2]; rfl
    · rw [if_neg (fun h' => h ((colN_iff j n (by omega)).mp h'))]
      by_cases h' : colN j < n
      · rw [if_pos h', if_pos (by omega)]
      · rw [if_neg h', if_neg (by omega)]

theorem outW_end (a : F .f32) (c : Dev nD) (f : (cc0_stg4_0 : Ref sig .tc).ty.Contents (Elt F)) : outW X Wt a c f 8 = outC X Wt a c := funext fun j => by
  refine (outW_eq X Wt a c f 8 le_rfl j).trans (if_pos ?_)
  have := (colS j).isLt
  unfold colN
  cases colB j <;> simp <;> omega

end Cert.Proof

end
-- ==== Proof.Run.lean ====
/-
  The run of @main on the sixteen devices, over any float values: from any memory with zero counters every
  weakly fair execution ends, with every device's result array at `outC` of the cast operands, its
  arguments unchanged and every counter at zero.
-/
module

public import proofs.«01_k».proof.Proof.Ends
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release hiding slot
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

abbrev s₀ : MemSt nD τ sig (Elt F) := ⟨m, fun _ => 0, ρ⟩

/-! ## What the operands are staged as -/

def stgX (c : Dev nD) : (cc0_stg0_0 : Ref sig .tc).ty.Contents (Elt F) := (win0_0.blk (0 : Fin 1)).view.read (Elt F) (m ((c : Thread nD τ).loc main_arg0))
def stgW (c : Dev nD) : (cc0_stg1_0 : Ref sig .tc).ty.Contents (Elt F) := (win0_1.blk (0 : Fin 1)).view.read (Elt F) (m ((c : Thread nD τ).loc main_arg1))
def stgA (c : Dev nD) : (cc0_stg2_0 : Ref sig .tc).ty.Contents (Elt F) := (win0_2.blk (0 : Fin 1)).view.read (Elt F) (m ((c : Thread nD τ).loc main_arg2))
def stgB (c : Dev nD) : (cc0_stg3_0 : Ref sig .tc).ty.Contents (Elt F) := (win0_3.blk (0 : Fin 1)).view.read (Elt F) (m ((c : Thread nD τ).loc main_arg3))
/-- The cast operands, the scale, the result. -/
def opX (c : Dev nD) : (cc0_scratch0 : Ref sig .tc).ty.Contents (Elt F) := k0_pay1 (stgX m c)
def opW (c : Dev nD) : (cc0_scratch1 : Ref sig .tc).ty.Contents (Elt F) := k0_pay2 (stgW m c)
def out (c : Dev nD) : (cc0_stg4_0 : Ref sig .tc).ty.Contents (Elt F) := outC (opX m) (opW m) (alpha (stgA m c) (stgB m c)) c

/-! ## The pipeline's data -/

def start (c : Dev nD) : sProp 𝕄 := iprop(G' (opX m) (opW m) c ∗ credit c ∗ (levAts L lv : sProp 𝕄))
def Φ₀ (c : Dev nD) : sProp 𝕄 := iprop(start m c ∗ Pipeline.scopedRest cfg0.spec c)
def Φ₁ (c : Dev nD) : sProp 𝕄 :=
  iprop(unscopedSems0 c ∗ Pipeline.ownSems0 (Ix := ℕ) (Name := ℕ) (U := UU) (Lvl := ℕ) (Val := Elt F) (τ := τ) osem c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => stgX m c
    | ⟨1, _⟩ => stgW m c
    | ⟨2, _⟩ => stgA m c
    | ⟨3, _⟩ => stgB m c
    | ⟨4, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body -/

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

theorem owns_whole_eq (c : Dev nD) (b : Ref sig .tc) (q : PosShare TreeShare) (V : b.ty.Contents (Elt F)) :
    (owns (c : Thread nD τ) (Memref.whole b) q V : sProp 𝕄) = iprop(∃ f : Buf (Elt F) ((c : Thread nD τ).loc b), ⌜f = V⌝ ∗ (((c : Thread nD τ).loc b) ↦{q} f)) := by
  unfold owns; simp only [Memref.view_whole, View.read_whole, View.set_whole]

/-- What the body starts from and what it ends with, as the pipeline states them. -/
def bodyPre (c : Dev nD) : sProp 𝕄 :=
  iprop(Φ₀ m c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt 0 t0_0.succ
    ∗ stg c cc0_stg0_0 (stgX m c) ∗ stg c cc0_stg1_0 (stgW m c) ∗ stg c cc0_stg2_0 (stgA m c) ∗ stg c cc0_stg3_0 (stgB m c) ∗ stg c cc0_stg4_0 (out m c))

theorem sound_body (c : Dev nD) : bodyPre m ρ c ⊢ WP c (body c) fun _ => iprop(|={Set.univ}=> bodyPost m ρ c) := by
  have hctx (K : Dev nD × CK → ℕ) (κ : Key → ℕ) := ctx_of (opX m) (opW m) K κ
  unfold bodyPre Φ₀ start G'
  rw [scopedRest0_eq]
  iintro ⟨⟨⟨⟨%K, %κ, #Hkn, Hlin⟩, Hcr, #Hlev⟩, B0, B1, B2, B3, B4, B5⟩, Ho, ⟨%d0, %g0, %hg0, Hx⟩, ⟨%d1, %g1, %hg1, Hw⟩, ⟨%d2, %g2, %hg2, H2⟩, ⟨%d3, %g3, %hg3, H3⟩, ⟨%d4, %g4, %hg4, Hout⟩⟩
  have hx : g0 = stgX m c := by rw [hg0]; unfold Dat.before; rw [if_pos (fetch0_0 t0_0)]; rfl
  have hw : g1 = stgW m c := by rw [hg1]; unfold Dat.before; rw [if_pos (fetch0_1 t0_0)]; rfl
  have h2 : g2 = stgA m c := by rw [hg2]; unfold Dat.before; rw [if_pos (fetch0_2 t0_0)]; rfl
  have h3 : g3 = stgB m c := by rw [hg3]; unfold Dat.before; rw [if_pos (fetch0_3 t0_0)]; rfl
  subst hx hw h2 h3
  unfold Dat.owesAt Pipeline.owesWithin
  icases Ho with ⟨%W, %hW, HO⟩
  rw [show (dats m ρ 0 c).owed t0_0.castSucc = O₀ c from rfl]
  ihave #Hctx := (hctx K κ) $$ []
  · isplitr; · iexact Hkn
    iexact Hlev
  ihave HB := (begin_of (opX m) (opW m) K κ c) $$ [Hlin Hcr B2 B3 B4 B5 HO]
  · isplitr; · iexact Hctx
    isplitl [Hlin]; · iexact Hlin
    isplitl [Hcr]; · iexact Hcr
    unfold travel owesE
    isplitl [B2 B3 B4 B5]
    · isplitl [B2]; · iexact B2
      isplitl [B3]; · iexact B3
      isplitl [B4]; · iexact B4
      iexact B5
    iexists W; iexact HO
  iapply (wp_body (opX m) (opW m) K κ c (stgX m c) (stgW m c) (stgA m c) (stgB m c) g4 rfl rfl _) $$ [HB Hx Hw H2 H3 B0 B1 Hout]
  · isplitr; · iexact Hctx
    isplitl [HB]; · iexact HB
    isplitl [Hx]; · iexact Hx
    isplitl [Hw]; · iexact Hw
    isplitl [H2]; · iexact H2
    isplitl [H3]; · iexact H3
    isplitl [B0]; · iexact B0
    isplitl [B1]; · iexact B1
    iexact Hout
  rw [outW_end]
  iintro ⟨HE, Hx, Hw, H2, H3, Hout⟩
  imod (end_of (opX m) (opW m) K κ c) $$ [HE] with ⟨Hsem, Htr, Hops, HO⟩
  · isplitr; · iexact Hctx
    iexact HE
  ihave Hsem := (sems0_out (F := F) c) $$ Hsem
  icases Hsem with ⟨Hu, Hown⟩
  unfold travel ops owesE
  icases Htr with ⟨B2, B3, B4, B5⟩
  icases Hops with ⟨B0, B1⟩
  icases HO with ⟨%W', HO⟩
  imodintro
  unfold bodyPost Φ₁
  rw [scopedRest0_eq]
  isplitl [Hu Hown B0 B1 B2 B3 B4 B5]
  · isplitl [Hu]; · iexact Hu
    isplitl [Hown]; · iexact Hown
    isplitl [B0]; · iexists (opX m c); iexact B0
    isplitl [B1]; · iexists (opW m c); iexact B1
    isplitl [B2]; · iexact B2
    isplitl [B3]; · iexact B3
    isplitl [B4]; · iexact B4
    iexact B5
  isplitl [HO]
  · unfold Dat.owesAt Pipeline.owesWithin
    rw [show (dats m ρ 0 c).owed t0_0.succ = 0 from rfl]
    iexists W'
    isplitr
    · ipureintro; exact fun _ _ => Or.inl trivial
    iexact HO
  isplitl [Hx]
  · iexists (stgX m c); isplitr
    · ipureintro; rfl
    iexact Hx
  isplitl [Hw]
  · iexists (stgW m c); isplitr
    · ipureintro; rfl
    iexact Hw
  isplitl [H2]
  · iexists (stgA m c); isplitr
    · ipureintro; rfl
    iexact H2
  isplitl [H3]
  · iexists (stgB m c); isplitr
    · ipureintro; rfl
    iexact H3
  iexists (out m c); isplitr
  · ipureintro; rfl
  iexact Hout

set_option maxRecDepth 40000 in
/-- The pipeline's obligation on device `c`'s body. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 t0_0) fun _ => bodyPost m ρ c
  rw [body_eq]
  simp only [wp_deviceId]
  exact (sound_body m ρ c).trans (wp_fupd _ _ _ _ _)

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opX m) (opW m) c)
      ⊢ (|={Set.univ}=> iprop(start m c ∗ emp) : sProp 𝕄) := by
  have hc := creds (F := F) c
  iintro ⟨-, Hlev, Hcr, -, HG⟩
  ihave Hc := hc $$ Hcr
  imodintro
  unfold start credit
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  exact BI.Entails.refl _

theorem waits (c : Dev nD) : (levAts L lv : sProp 𝕄) ⊢ Pipeline.cellsWaits cfgs (dats m ρ) 0 0 c :=
  Pipeline.cellsWaits_intro cfgs (dats m ρ) 0 0 c fun w s t =>
    mayWait_above c _ (by
      rcases t with ⟨_ | _, ht⟩
      · exact above_O₀ c
      · exact above_zero 0) (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by exact block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opX m) (opW m)) (G' := G' (opX m) (opW m)) (u₀ := u₀)
    (hu₀ := by
      unfold u₀
      iintro Hu
      ihave H := (ownU_pair _ _) $$ Hu
      icases H with ⟨HP, HX⟩
      imod (fund_rings (opX m) (opW m)) $$ HX with HG
      imodintro
      isplitl [HP] <;> iassumption)
    (hglob := glob (opX m) (opW m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem final_in (c : Dev nD) (w : Fin cfg0.W) (hw : (cfg0.win w).isOut = false) :
    finalA m ρ c w = m ((cfg0.win w).arr.view.loc (c : Thread nD τ)) :=
  (dats (F := F) m ρ 0 c).arrAt_in w hw _

end Cert.Proof

end
-- ==== Proof.Other.lean ====
/-
  The kernel as printed at Bits has the text of the idealized one: its body table is the same
  table. So a run of the one is a run of the other.
-/
module

public import proofs.«01_k».proof.Proof.Prog
public import proofs.«01_k».proof.Proof.Gen.Kernel.Points
public import proofs.«01_k».proof.Proof.Gen.Kernel.Launch

@[expose] public section

noncomputable section

namespace Cert.Proof

open Idealize.ShloMosaic Idealize.ShloMosaic.TcCoe Idealize.SL Idealize.SL.Sem

attribute [local instance] Cert.Kernel.Gen.facts Cert.KernelIdeal.Gen.facts

variable {F : FTy → Type} [FloatOps F]

set_option maxRecDepth 100000 in
set_option maxHeartbeats 4000000 in
/-- The body printed at Bits is the same straight line. -/
theorem kernel_body_eq : Cert.Kernel.Gen.bodyAt0 (F := F) Cert.Kernel.Gen.t0_0 = Prog.op .deviceId fun c => body (F := F) c :=
  rfl

theorem bodies_eq : Cert.Kernel.Gen.bodyAt0 (F := F) Cert.Kernel.Gen.t0_0 = Cert.KernelIdeal.Gen.bodyAt0 (F := F) Cert.KernelIdeal.Gen.t0_0 :=
  kernel_body_eq.trans body_eq.symm

/-- The two body tables are one. -/
theorem tables_eq : Cert.Kernel.defs₀ (F := F) = Cert.KernelIdeal.defs₀ (F := F) := by
  funext p
  cases p with
  | tc =>
    funext ℓ a
    obtain ⟨k, hk⟩ := ℓ
    cases k with
    | zero =>
      obtain ⟨t, s⟩ := a
      have hs : s = Cert.KernelIdeal.cfg0.slots Cert.KernelIdeal.Gen.t0_0 := by
        funext w
        apply Fin.ext
        have h1 := (s w).isLt
        have h2 := (Cert.KernelIdeal.cfg0.slots Cert.KernelIdeal.Gen.t0_0 w).isLt
        fin_cases w <;> exact (Nat.lt_one_iff.mp h1).trans (Nat.lt_one_iff.mp h2).symm
      subst hs
      exact bodies_eq
    | succ n => exact absurd hk (Nat.not_lt.2 (Nat.le_add_left _ _))
  | scScalar i => rfl
  | scVector i j => rfl

/-- The two programs' tables, pipelines included, are one. -/
theorem defs_eq : Cert.Kernel.defs (F := F) = Cert.KernelIdeal.defs (F := F) :=
  congrArg (Pipeline.defs (Cert.KernelIdeal.pcfgs (F := F))) tables_eq

end Cert.Proof

end
-- ==== Proof.Frames.lean ====
/-
  The frames of the kernel, read at Bits and at Ideal: the one run (`run_main`) at either.
-/
module

public import proofs.«01_k».proof.Defs
public import proofs.«01_k».proof.Proof.Gen.Kernel
public import proofs.«01_k».proof.Proof.Run
public import proofs.«01_k».proof.Proof.Other

@[expose] public section

noncomputable section

namespace Cert.Proof

open Idealize.ShloMosaic Idealize.ShloMosaic.TcCoe Idealize.SL.Sem

attribute [local instance] Cert.Kernel.Gen.facts Cert.KernelIdeal.Gen.facts

/-- The argument arrays after the run. -/
theorem args_kept {F : FTy → Type} [FloatOps F] (m : (ℓ : Loc Cert.KernelIdeal.nD Cert.KernelIdeal.τ Cert.KernelIdeal.sig) → Buf (Elt F) ℓ) (ρ : Dev Cert.KernelIdeal.nD → PrngReg)
    (r : PUnit × MemSt Cert.KernelIdeal.nD Cert.KernelIdeal.τ Cert.KernelIdeal.sig (Elt F)) (h : QC m ρ r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  ⟨(h c (0 : Fin 5)).trans (final_in m ρ c (0 : Fin 5) rfl), (h c (1 : Fin 5)).trans (final_in m ρ c (1 : Fin 5) rfl),
    (h c (2 : Fin 5)).trans (final_in m ρ c (2 : Fin 5) rfl), (h c (3 : Fin 5)).trans (final_in m ρ c (3 : Fin 5) rfl)⟩

/-- The frame of the kernel at Ideal. -/
theorem frame_ideal : Cert.quiescent_KernelIdeal := fun m ρ _ =>
  (θ_run Cert.KernelIdeal.defs _ _).mono (fun r h => ⟨args_kept m ρ r h.1, h.2⟩) (run_main (F := Ideal) m ρ)

/-- A program's runs do not depend on which of two equal tables it reads. -/
theorem run_table {d d' : Defs Cert.KernelIdeal.nD Cert.KernelIdeal.τ Cert.KernelIdeal.sig (Elt Bits) (Pipeline.Sig Cert.KernelIdeal.Λ₀ (Fin 1) fun p => (Cert.KernelIdeal.pcfgs (F := Bits) p).Adm)} (h : d = d')
    (s) (Q) (H : θ_run d (onTc (Cert.KernelIdeal.main (F := Bits))) s Q) : θ_run d' (onTc (Cert.KernelIdeal.main (F := Bits))) s Q :=
  h ▸ H

/-- The frame of the kernel at Bits: the run at Bits, its table replaced by the equal one. -/
theorem frame_kernel : Cert.quiescent_Kernel := fun m ρ _ =>
  run_table (defs_eq (F := Bits)).symm _ _
    ((θ_run Cert.KernelIdeal.defs _ _).mono (fun r h => ⟨args_kept m ρ r h.1, h.2⟩) (run_main (F := Bits) m ρ))

end Cert.Proof

end
-- ==== Proof.Final.lean ====
/-
  The arrays after the run of the kernel: every window is its whole array, so the result array holds what the body
  left in its staging buffer, and the operands are staged whole.
-/
module

public import proofs.«01_k».proof.Proof.Run
public import Idealize.ShloMosaic.Lib.Pipeline.Value

@[expose] public section

noncomputable section

namespace Cert.Proof

open Cert.KernelIdeal Cert.KernelIdeal.Gen
open Idealize.ShloMosaic Idealize.ShloMosaic.TcCoe
open Idealize.ShloMosaic.Pipeline (Dat)

variable {F : FTy → Type} [FloatOps F]

/-- Where an index of the one block is in the array: at itself. -/
theorem at_self (n x : ℕ) : 0 * n + 1 * x = x := by omega

theorem read_blk0 (t : Fin 1) (f : (main_arg0 : Ref sig .tc).ty.Contents (Elt F)) : (win0_0.blk t).view.read (Elt F) f = f :=
  funext fun x => congrArg f (funext fun a => Fin.ext (at_self _ _))
theorem read_blk1 (t : Fin 1) (f : (main_arg1 : Ref sig .tc).ty.Contents (Elt F)) : (win0_1.blk t).view.read (Elt F) f = f :=
  funext fun x => congrArg f (funext fun a => Fin.ext (at_self _ _))
theorem read_blk2 (t : Fin 1) (f : (main_arg2 : Ref sig .tc).ty.Contents (Elt F)) : (win0_2.blk t).view.read (Elt F) f = f :=
  funext fun x => congrArg f (funext fun a => Fin.ext (at_self _ _))
theorem read_blk3 (t : Fin 1) (f : (main_arg3 : Ref sig .tc).ty.Contents (Elt F)) : (win0_3.blk t).view.read (Elt F) f = f :=
  funext fun x => congrArg f (funext fun a => Fin.ext (at_self _ _))
theorem read_blk4 (t : Fin 1) (f : (main_v1 : Ref sig .tc).ty.Contents (Elt F)) : (win0_4.blk t).view.read (Elt F) f = f :=
  funext fun x => congrArg f (funext fun a => Fin.ext (at_self _ _))

variable (m : (ℓ : Loc nD τ sig) → Buf (Elt F) ℓ) (ρ : Dev nD → PrngReg)

theorem stgX_eq (c : Dev nD) : stgX m c = m ((c : Thread nD τ).loc main_arg0) := read_blk0 0 _
theorem stgW_eq (c : Dev nD) : stgW m c = m ((c : Thread nD τ).loc main_arg1) := read_blk1 0 _
theorem stgA_eq (c : Dev nD) : stgA m c = m ((c : Thread nD τ).loc main_arg2) := read_blk2 0 _
theorem stgB_eq (c : Dev nD) : stgB m c = m ((c : Thread nD τ).loc main_arg3) := read_blk3 0 _

/-- Every index of the result array is in the one block. -/
theorem covered (t : Fin 1) (i : (main_v1 : Ref sig .tc).ty.shape.Idx) : i ∈ (win0_4.blk t).view.set :=
  Finset.mem_map.mpr ⟨i, Finset.mem_univ _, funext fun a => Fin.ext (at_self _ _)⟩

/-- The result array after the run holds the closed form `out`. -/
theorem final_out (c : Dev nD) : finalA m ρ c (4 : Fin 5) = out m c :=
  (dats m ρ 0 c).arrAt_eq_of_cover (4 : Fin 5) (out m c)
    (fun t _ => (read_blk4 t (out m c)).symm)
    fun i => ⟨t0_0, flush0_4 t0_0, covered t0_0 i⟩

end Cert.Proof

end
-- ==== Proof.Sums.lean ====
/-
  What the kernel computes over the extended reals: the running sums around the rings, added up. Device `c`'s
  result at row `r` and column `q` is the positive part of the scaled sum, over all devices `d`, of the products of
  `x`'s rows of block `c` with `w`'s column `q`, each on the part that device `d` holds.
-/
module

public import proofs.«01_k».proof.Proof.Final
public import Idealize.ShloMosaic.Lib.MatmulPlain
public import Idealize.ShloMosaic.PureOps.Ideal.Laws

@[expose] public section

noncomputable section

namespace Cert.Proof

open Cert.KernelIdeal Cert.KernelIdeal.Gen
open Idealize.ShloMosaic Idealize.ShloMosaic.TcCoe Idealize.ShloMosaic.ValueIdx
open scoped BigOperators

/-! ## Indices -/

/-- Row `r` of block `e` of rows. -/
def row (e : Dev nD) (r : Fin 256) : Fin 4096 := ⟨256 * e.val + r.val, by have : e.val < 16 := e.isLt; omega⟩
/-- Column `q` of half `b`. -/
def hcol (b : Bool) (q : Fin 4096) : Fin 8192 := ⟨(bif b then 4096 else 0) + q.val, by cases b <;> simp <;> omega⟩
/-- Column `i` of sub-block `s` of a half. -/
def scol (s : Fin 4) (i : Fin 1024) : Fin 4096 := ⟨1024 * s.val + i.val, by omega⟩

/-- The block of rows that ring `b` sums on device `c` at hop `h`. -/
def blk (b : Bool) (h : ℕ) (c : Dev nD) : Dev nD :=
  ⟨(bif b then c.val + 31 - h else c.val + h + 1) % 16, Nat.mod_lt _ (by decide)⟩
/-- The device `k` hops back on ring `b`. -/
def back (b : Bool) (k : ℕ) (c : Dev nD) : Dev nD :=
  ⟨(c.val + k * (bif b then 15 else 1)) % 16, Nat.mod_lt _ (by decide)⟩

theorem blk_succ (b : Bool) (h : ℕ) (hh : h ≤ 14) (c : Dev nD) : blk b h (dst (!b) c) = blk b (h + 1) c := by
  apply Fin.ext
  cases b
  · show ((dst true c).val + h + 1) % 16 = (c.val + (h + 1) + 1) % 16
    rw [dst_true]; omega
  · show ((dst false c).val + 31 - h) % 16 = (c.val + 31 - (h + 1)) % 16
    rw [dst_false]; omega

theorem blk_last (b : Bool) (c : Dev nD) : blk b 15 c = c := by
  apply Fin.ext
  have : c.val < 16 := c.isLt
  cases b
  · show (c.val + 15 + 1) % 16 = c.val; omega
  · show (c.val + 31 - 15) % 16 = c.val; omega

theorem back_zero (b : Bool) (c : Dev nD) : back b 0 c = c := by
  apply Fin.ext
  have : c.val < 16 := c.isLt
  show (c.val + 0 * _) % 16 = c.val
  rw [Nat.zero_mul]; omega

theorem back_succ (b : Bool) (k : ℕ) (c : Dev nD) : back b k (dst (!b) c) = back b (k + 1) c := by
  apply Fin.ext
  cases b
  · show ((dst true c).val + k * 1) % 16 = (c.val + (k + 1) * 1) % 16
    rw [dst_true]; omega
  · show ((dst false c).val + k * 15) % 16 = (c.val + (k + 1) * 15) % 16
    rw [dst_false]; omega

/-- Sixteen hops back meet every device once. -/
theorem back_bijective (b : Bool) (c : Dev nD) : Function.Bijective (fun k : Fin 16 => back b k.val c) := by
  have hi : Function.Injective (fun k : Fin 16 => back b k.val c) := fun k k' h => by
    have h' := congrArg Fin.val h
    apply Fin.ext
    cases b
    · have h'' : (c.val + k.val * 1) % 16 = (c.val + k'.val * 1) % 16 := h'
      omega
    · have h'' : (c.val + k.val * 15) % 16 = (c.val + k'.val * 15) % 16 := h'
      omega
  exact (Finite.injective_iff_bijective (α := Fin 16)).mp hi

/-! ## One partial product -/

/-- Row `r` of block `e` against column `q`, on the part of the contraction that device `d` holds. -/
def term (X : Dev nD → S4096x256.Idx → EReal) (Wt : Dev nD → S256x8192.Idx → EReal) (d e : Dev nD) (r : Fin 256) (q : Fin 8192) : EReal :=
  ∑ k : Fin 256, X d (ix2 (row e r) k) * Wt d (ix2 k q)

variable (X : Dev nD → (cc0_scratch0 : Ref sig .tc).ty.Contents (Elt Ideal)) (Wt : Dev nD → (cc0_scratch1 : Ref sig .tc).ty.Contents (Elt Ideal))

theorem prod_apply (a : Vec Ideal S256x256 .bf16) (v : Vec Ideal S256x4096 .bf16) (r : Fin 256) (q : Fin 4096) :
    prod a v (ix2 r q) = ∑ k : Fin 256, (a : S256x256.Idx → EReal) (ix2 r k) * (v : S256x4096.Idx → EReal) (ix2 k q) := by
  have h := Ideal.matmul_plain_apply (φ₁ := .bf16) (φ₂ := .bf16) (M := 256) (K := 256) (N := 4096) none a v (constant S256x4096 .f32 0x00000000#32) r q
  refine (show prod a v (ix2 r q) = _ from h).trans ?_
  show Ideal.ofBits .f32 0x00000000#32 + _ = _
  rw [Ideal.ofBits_zero_f32, zero_add]

theorem rdX_apply (x : (cc0_scratch0 : Ref sig .tc).ty.Contents (Elt Ideal)) (off : Fin 2 → ℕ) (inb : ∀ a, off a + S256x256.size a ≤ S4096x256.size a)
    (e : Dev nD) (h : off = ![256 * e.val, 0]) (r : Fin 256) (k : Fin 256) : rdX x off inb (ix2 r k) = x (ix2 (row e r) k) := by
  subst h
  refine congrArg x (funext fun a => Fin.ext ?_)
  match a with
  | ⟨0, _⟩ => exact congrArg (256 * e.val + ·) (Nat.one_mul r.val)
  | ⟨1, _⟩ => show 0 + 1 * k.val = k.val; omega

theorem rdW_apply (w : (cc0_scratch1 : Ref sig .tc).ty.Contents (Elt Ideal)) (b : Bool) (k : Fin 256) (q : Fin 4096) :
    rdW w b (ix2 k q) = w (ix2 k (hcol b q)) := by
  refine congrArg w (funext fun a => Fin.ext ?_)
  match a with
  | ⟨0, _⟩ => show 0 + 1 * k.val = k.val; omega
  | ⟨1, _⟩ => exact congrArg ((bif b then 4096 else 0) + ·) (Nat.one_mul q.val)

theorem prod_term (c e : Dev nD) (b : Bool) (off : Fin 2 → ℕ) (inb : ∀ a, off a + S256x256.size a ≤ S4096x256.size a)
    (h : off = ![256 * e.val, 0]) (r : Fin 256) (q : Fin 4096) :
    prod (rdX (X c) off inb) (rdW (Wt c) b) (ix2 r q) = term X Wt c e r (hcol b q) := by
  rw [prod_apply]
  exact Finset.sum_congr rfl fun k _ => by rw [rdX_apply (X c) off inb e h, rdW_apply]

theorem part_apply (b : Bool) (h : ℕ) (hh : h ≤ 15) (c : Dev nD) (r : Fin 256) (q : Fin 4096) :
    part X Wt c h b (ix2 r q) = term X Wt c (blk b h c) r (hcol b q) := by
  have hc : c.val < 16 := c.isLt
  cases h with
  | zero =>
    cases b
    · exact prod_term X Wt c (blk false 0 c) false _ _ (k0_off1_eq c) r q
    · refine prod_term X Wt c (blk true 0 c) true _ _ ((k0_off2_eq c).trans ?_) r q
      rw [show (c.val + 15) % 16 = (blk true 0 c).val from by show _ = (c.val + 31 - 0) % 16; omega]
  | succ h =>
    have h15 : h < 15 := by omega
    refine (congrFun (show part X Wt c (h + 1) b = _ from dif_pos h15) (ix2 r q)).trans ?_
    cases b
    · refine prod_term X Wt c (blk false (h + 1) c) false _ _ ((k0_off3_eq c ⟨h, h15⟩).trans ?_) r q
      rw [show (c.val + (⟨h, h15⟩ : Fin 15).val + 2) % 16 = (blk false (h + 1) c).val from by show (c.val + h + 2) % 16 = (c.val + (h + 1) + 1) % 16; omega]
    · refine prod_term X Wt c (blk true (h + 1) c) true _ _ ((k0_off4_eq c ⟨h, h15⟩).trans ?_) r q
      rw [show ((c.val + 30) - (⟨h, h15⟩ : Fin 15).val) % 16 = (blk true (h + 1) c).val from by show (c.val + 30 - h) % 16 = (c.val + 31 - (h + 1)) % 16; omega]

/-! ## The running sums -/

theorem sub_apply (s : Fin 4) (p : FVec Ideal S256x4096 .f32) (r : Fin 256) (i : Fin 1024) : sub s p (ix2 r i) = p (ix2 r (scol s i)) :=
  extractStridedSlice_apply _ p (slices4 s) (ix2 r i) (ix2 r (scol s i)) fun a => by
    match a with
    | ⟨0, _⟩ => show r.val = 0 + r.val; omega
    | ⟨1, _⟩ => rfl

theorem unslot_pack (v : FVec Ideal S256x1024 .f32) : unslot (pack v) = (v : S256x1024.Idx → EReal) :=
  shapeCast_shapeCast (s := S256x1024) (t := S1x256x1024) (v : S256x1024.Idx → EReal) shapeCasts_S256x1024_S1x256x1024 shapeCasts_S1x256x1024_S256x1024

theorem total_apply (b : Bool) (s : Fin 4) (r : Fin 256) (i : Fin 1024) (h : ℕ) (hh : h ≤ 15) (c : Dev nD) :
    total X Wt b h c s (ix2 r i) = ∑ k ∈ Finset.range (h + 1), term X Wt (back b k c) (blk b h c) r (hcol b (scol s i)) := by
  induction h generalizing c with
  | zero =>
    rw [Finset.sum_range_one, back_zero]
    exact (sub_apply s _ r i).trans (part_apply X Wt b 0 hh c r _)
  | succ h ih =>
    rw [Finset.sum_range_succ', back_zero]
    have h1 : sub s (part X Wt c (h + 1) b) (ix2 r i) = _ := (sub_apply s _ r i).trans (part_apply X Wt b (h + 1) hh c r (scol s i))
    have h2 := ih (by omega) (dst (!b) c)
    rw [blk_succ b h (by omega)] at h2
    simp only [back_succ] at h2
    have h3 : unslot (pack (total X Wt b h (dst (!b) c) s)) (ix2 r i) = total X Wt b h (dst (!b) c) s (ix2 r i) :=
      congrFun (unslot_pack _) _
    show (sub s (part X Wt c (h + 1) b) (ix2 r i) : EReal) + unslot (pack (total X Wt b h (dst (!b) c) s)) (ix2 r i) = _
    rw [h3, h1, h2]
    exact add_comm _ _

/-- After the last hop the sum is over all devices, of the device's own rows. -/
theorem total_last (b : Bool) (s : Fin 4) (r : Fin 256) (i : Fin 1024) (c : Dev nD) :
    total X Wt b 15 c s (ix2 r i) = ∑ d : Dev nD, term X Wt d c r (hcol b (scol s i)) := by
  rw [total_apply X Wt b s r i 15 le_rfl c, blk_last, ← Fin.sum_univ_eq_sum_range (fun k => term X Wt (back b k c) c r (hcol b (scol s i))) 16]
  exact (back_bijective b c).sum_comp fun d => term X Wt d c r (hcol b (scol s i))

/-! ## The result -/

theorem col_split (q : Fin 8192) (r : Fin 256) :
    hcol (colB (ix2 r q)) (scol (colS (ix2 r q)) ⟨q.val % 1024, Nat.mod_lt _ (by decide)⟩) = q := by
  apply Fin.ext
  have hq := q.isLt
  show (bif decide (4096 ≤ q.val) then 4096 else 0) + (1024 * (q.val % 4096 / 1024) + q.val % 1024) = q.val
  by_cases h : 4096 ≤ q.val
  · rw [decide_eq_true h, cond_true]; omega
  · rw [decide_eq_false h, cond_false]; omega

/-- Device `c`'s result at row `r` and column `q`. -/
theorem outC_apply (a : Ideal .f32) (c : Dev nD) (r : Fin 256) (q : Fin 8192) :
    outC X Wt a c (ix2 r q) = max ((∑ d : Dev nD, term X Wt d c r q) * (a : EReal)) (Ideal.ofBits .f32 0x00000000#32) := by
  have h := total_last X Wt (colB (ix2 r q)) (colS (ix2 r q)) r ⟨q.val % 1024, Nat.mod_lt _ (by decide)⟩ c
  rw [col_split] at h
  have hi : colI (ix2 r q) = ix2 r ⟨q.val % 1024, Nat.mod_lt _ (by decide)⟩ := funext fun a => by
    match a with
    | ⟨0, _⟩ => rfl
    | ⟨1, _⟩ => rfl
  show max ((total X Wt (colB (ix2 r q)) 15 c (colS (ix2 r q)) (colI (ix2 r q)) : EReal) * a) (Ideal.ofBits .f32 0x00000000#32) = _
  rw [hi, h]

end Cert.Proof

end
-- ==== Proof.Whole.lean ====
/-
  The reference's result array over the extended reals, at an index: its one body stores the whole result, computed
  of the whole operands.
-/
module

public import proofs.«01_k».proof.Proof.Gen.ReferenceIdeal.Value
public import proofs.«01_k».proof.Proof.Final
public import Idealize.ShloMosaic.Lib.Pipeline.Value
public import Idealize.ShloMosaic.Lib.MatmulPlain
public import Idealize.ShloMosaic.Lib.Tactic
public import Idealize.ShloMosaic.PureOps.Ideal.Laws

@[expose] public section

noncomputable section

namespace Cert.Whole

open Cert.ReferenceIdeal Cert.ReferenceIdeal.Gen
open Idealize.ShloMosaic Idealize.ShloMosaic.TcCoe Idealize.ShloMosaic.ValueIdx
open Idealize.ShloMosaic.Pipeline (Dat)
open scoped BigOperators

variable {F : FTy → Type} [FloatOps F]

theorem no_offset : (![0, 0] : Fin 2 → ℕ) = fun _ => 0 := funext fun a => by fin_cases a <;> rfl

/-- The index of a one-element array. -/
def one : S1.Idx := fun a => ⟨0, by fin_cases a; decide⟩
theorem one_only (i : S1.Idx) : i = one := funext fun a => Fin.ext (by
  have h : (i a).val < S1.size a := (i a).isLt
  have h1 : S1.size a = 1 := by fin_cases a; rfl
  show (i a).val = 0
  omega)

/-- What the body leaves in the result's staging buffer. -/
theorem stored (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole)
    (a4 : Memref sig .tc .vmem S4096x8192 .f32) (h4 : a4.IsWhole) (x : Vec F S4096x4096 .fp8e4m3) (w : Vec F S4096x8192 .fp8e4m3) (a b : Vec F S1 .f32) :
    out0_A_4 c a0 h0 a1 h1 a2 h2 a3 h3 a4 h4 x w a b = k0_pay1 x w (a one) (b one) := by
  unfold out0_A_4
  rw [View.read_writes_eq_canon _ _ _ (cover0_A_4 c a0 h0 a1 h1 a2 h2 a3 h3 a4 h4 x w a b)]
  unfold kernelRun0_A
  dsimp only
  rw [View.canon_unit_zero no_offset]
  sl_unfold_words
  simp only [View.readAt_eq_ld, h0.read_unread, h1.read_unread, h2.read_unread, h3.read_unread, View.ld_unit_zero (S := S4096x4096) no_offset, View.ld_unit_zero (S := S4096x8192) no_offset]
  exact congrArg₂ (k0_pay1 x w) (congrArg a (one_only _)) (congrArg b (one_only _))

variable (m : (ℓ : Loc nD τ sig) → Buf (Elt F) ℓ)

/-- The whole result. -/
def res (c : Dev nD) : (main_v0 : Ref sig .tc).ty.Contents (Elt F) :=
  k0_pay1 (m ((c : Thread nD τ).loc main_arg0)) (m ((c : Thread nD τ).loc main_arg1)) (m ((c : Thread nD τ).loc main_arg2) one) (m ((c : Thread nD τ).loc main_arg3) one)

theorem iblk0 (c : Dev nD) (t : Fin cfg0.N) : iblk m c 0 t = m ((c : Thread nD τ).loc main_arg0) :=
  funext fun x => congrArg (m ((c : Thread nD τ).loc main_arg0)) (funext fun a => Fin.ext (Cert.Proof.at_self _ _))
theorem iblk1 (c : Dev nD) (t : Fin cfg0.N) : iblk m c 1 t = m ((c : Thread nD τ).loc main_arg1) :=
  funext fun x => congrArg (m ((c : Thread nD τ).loc main_arg1)) (funext fun a => Fin.ext (Cert.Proof.at_self _ _))
theorem iblk2 (c : Dev nD) (t : Fin cfg0.N) : iblk m c 2 t = m ((c : Thread nD τ).loc main_arg2) :=
  funext fun x => congrArg (m ((c : Thread nD τ).loc main_arg2)) (funext fun a => Fin.ext (Cert.Proof.at_self _ _))
theorem iblk3 (c : Dev nD) (t : Fin cfg0.N) : iblk m c 3 t = m ((c : Thread nD τ).loc main_arg3) :=
  funext fun x => congrArg (m ((c : Thread nD τ).loc main_arg3)) (funext fun a => Fin.ext (Cert.Proof.at_self _ _))
theorem read_blk4 (t : Fin 1) (f : (main_v0 : Ref sig .tc).ty.Contents (Elt F)) : (win0_4.blk t).view.read (Elt F) f = f :=
  funext fun x => congrArg f (funext fun a => Fin.ext (Cert.Proof.at_self _ _))

theorem covered (t : Fin 1) (i : (main_v0 : Ref sig .tc).ty.shape.Idx) : i ∈ (win0_4.blk t).view.set :=
  Finset.mem_map.mpr ⟨i, Finset.mem_univ _, funext fun a => Fin.ext (Cert.Proof.at_self _ _)⟩

theorem flushed_res (c : Dev nD) (t : Fin cfg0.N) : (dats m 0 c).flushed 4 t = res m c := by
  rw [Cert.ReferenceIdeal.Value.flushed4_A, stored, iblk0, iblk1, iblk2, iblk3]
  rfl

/-- The result array after the run holds `res`. -/
theorem final_res (c : Dev nD) : (dats m 0 c).arrAt 4 cfg0.N = res m c :=
  (dats m 0 c).arrAt_eq_of_cover 4 (res m c) (fun t _ => (flushed_res m c t).trans (read_blk4 t (res m c)).symm)
    fun i => ⟨t0_0, flush0_4 t0_0, covered t0_0 i⟩

/-- The result over the extended reals at row `i` and column `q`. -/
theorem pay_apply (x : S4096x4096.Idx → EReal) (w : S4096x8192.Idx → EReal) (a b : EReal) (i : Fin 4096) (q : Fin 8192) :
    (k0_pay1 (F := Ideal) x w a b : S4096x8192.Idx → EReal) (ix2 i q)
      = max ((∑ k : Fin 4096, x (ix2 i k) * w (ix2 k q)) * (a * b)) (Ideal.ofBits .f32 0x00000000#32) := by
  have h := Ideal.matmul_plain_apply (φ₁ := .f32) (φ₂ := .f32) (M := 4096) (K := 4096) (N := 8192) none x w (constant S4096x8192 .f32 0x00000000#32) i q
  have h0 : (constant S4096x8192 .f32 0x00000000#32 : FVec Ideal S4096x8192 .f32) (ix2 i q) = (0 : EReal) := Ideal.ofBits_zero_f32
  rw [h0, zero_add] at h
  rw [← h]
  rfl

end Cert.Whole

end
-- ==== Proof.Algebra.lean ====
/-
  The kernel's result is the reference's, over the extended reals: a contraction over 4096 columns is the sum, over
  sixteen devices, of the contractions over the 256 columns each of them holds.
-/
module

public import proofs.«01_k».proof.Proof.Sums
public import proofs.«01_k».proof.Proof.Frames
public import proofs.«01_k».proof.Proof.Whole

@[expose] public section

noncomputable section

namespace Cert.Proof

open Cert.KernelIdeal Cert.KernelIdeal.Gen
open Idealize.ShloMosaic Idealize.ShloMosaic.TcCoe Idealize.ShloMosaic.ValueIdx
open scoped BigOperators

attribute [local instance] Cert.KernelIdeal.Gen.facts Cert.ReferenceIdeal.Gen.facts

/-- A sum over 4096, cut into sixteen blocks of 256. -/
theorem sum_blocks (f : Fin 4096 → EReal) : (∑ d : Dev nD, ∑ k : Fin 256, f (row d k)) = ∑ i : Fin 4096, f i := by
  have h := (finProdFinEquiv (m := 16) (n := 256)).sum_comp f
  rw [Fintype.sum_prod_type] at h
  refine Eq.trans ?_ h
  exact Finset.sum_congr rfl fun d _ => Finset.sum_congr rfl fun k _ => congrArg f (Fin.ext (Nat.add_comm _ _))

variable (m : (ℓ : Loc nD τ sig) → Buf (Elt Ideal) ℓ)

/-- The operands of the sums, at Ideal: the arguments themselves. -/
theorem opX_eq (c : Dev nD) : (opX m c : S4096x256.Idx → EReal) = m ((c : Thread nD τ).loc main_arg0) :=
  (show (opX m c : S4096x256.Idx → EReal) = stgX m c from by
    unfold opX k0_pay1
    simp only [shapeCast_self]
    rfl).trans (stgX_eq m c)
theorem opW_eq (c : Dev nD) : (opW m c : S256x8192.Idx → EReal) = m ((c : Thread nD τ).loc main_arg1) :=
  (show (opW m c : S256x8192.Idx → EReal) = stgW m c from by
    unfold opW k0_pay2
    simp only [shapeCast_self]
    rfl).trans (stgW_eq m c)

theorem alpha_eq (f2 : (cc0_stg2_0 : Ref sig .tc).ty.Contents (Elt Ideal)) (f3 : (cc0_stg3_0 : Ref sig .tc).ty.Contents (Elt Ideal)) :
    (alpha f2 f3 : EReal) = HMul.hMul (α := EReal) (β := EReal) (f2 Whole.one) (f3 Whole.one) :=
  congrArg₂ (HMul.hMul (α := EReal) (β := EReal) (γ := EReal)) (congrArg f2 (Whole.one_only _)) (congrArg f3 (Whole.one_only _))

/-- Block `c` of the reference's result is what device `c` of the kernel ends with. -/
theorem out_eq (m' : (ℓ : Loc Cert.ReferenceIdeal.nD Cert.ReferenceIdeal.τ Cert.ReferenceIdeal.sig) → Buf (Elt Ideal) ℓ) (z : Dev Cert.ReferenceIdeal.nD)
    (hX : ∀ c : Dev nD, m ((c : Thread nD τ).loc main_arg0) = Layout.block ⟨2, ![4096, 256]⟩ ⟨2, ![4096, 4096]⟩ 1 16 c (m' ((z : Thread Cert.ReferenceIdeal.nD Cert.ReferenceIdeal.τ).loc Cert.ReferenceIdeal.main_arg0)))
    (hW : ∀ c : Dev nD, m ((c : Thread nD τ).loc main_arg1) = Layout.block ⟨2, ![256, 8192]⟩ ⟨2, ![4096, 8192]⟩ 0 16 c (m' ((z : Thread Cert.ReferenceIdeal.nD Cert.ReferenceIdeal.τ).loc Cert.ReferenceIdeal.main_arg1)))
    (hA : ∀ c : Dev nD, m ((c : Thread nD τ).loc main_arg2) = m' ((z : Thread Cert.ReferenceIdeal.nD Cert.ReferenceIdeal.τ).loc Cert.ReferenceIdeal.main_arg2))
    (hB : ∀ c : Dev nD, m ((c : Thread nD τ).loc main_arg3) = m' ((z : Thread Cert.ReferenceIdeal.nD Cert.ReferenceIdeal.τ).loc Cert.ReferenceIdeal.main_arg3))
    (c : Dev nD) : out m c = Layout.block ⟨2, ![256, 8192]⟩ ⟨2, ![4096, 8192]⟩ 0 16 c (Whole.res m' z) := by
  funext j
  obtain ⟨r, q, rfl⟩ : ∃ (r : Fin 256) (q : Fin 8192), j = ix2 r q := ⟨j 0, j 1, eq_ix2 j⟩
  have hx : ∀ (d : Dev nD) (k : Fin 256), (opX m d : S4096x256.Idx → EReal) (ix2 (row c r) k)
      = (m' ((z : Thread Cert.ReferenceIdeal.nD Cert.ReferenceIdeal.τ).loc Cert.ReferenceIdeal.main_arg0) : Cert.ReferenceIdeal.S4096x4096.Idx → EReal) (ix2 (row c r) (row d k)) := fun d k => by
    rw [opX_eq, hX]
    refine congrArg (m' ((z : Thread Cert.ReferenceIdeal.nD Cert.ReferenceIdeal.τ).loc Cert.ReferenceIdeal.main_arg0)) (funext fun a => Fin.ext ?_)
    match a with
    | ⟨0, _⟩ => rfl
    | ⟨1, _⟩ => exact congrArg (· + k.val) (Nat.mul_comm d.val 256)
  have hw : ∀ (d : Dev nD) (k : Fin 256), (opW m d : S256x8192.Idx → EReal) (ix2 k q)
      = (m' ((z : Thread Cert.ReferenceIdeal.nD Cert.ReferenceIdeal.τ).loc Cert.ReferenceIdeal.main_arg1) : Cert.ReferenceIdeal.S4096x8192.Idx → EReal) (ix2 (row d k) q) := fun d k => by
    rw [opW_eq, hW]
    refine congrArg (m' ((z : Thread Cert.ReferenceIdeal.nD Cert.ReferenceIdeal.τ).loc Cert.ReferenceIdeal.main_arg1)) (funext fun a => Fin.ext ?_)
    match a with
    | ⟨0, _⟩ => exact congrArg (· + k.val) (Nat.mul_comm d.val 256)
    | ⟨1, _⟩ => rfl
  have hj : (show Layout.Tiles ⟨2, ![256, 8192]⟩ ⟨2, ![4096, 8192]⟩ 0 16 by decide).idx c (ix2 r q) = ix2 (row c r) q := funext fun a => Fin.ext (by
    match a with
    | ⟨0, _⟩ => exact congrArg (· + r.val) (Nat.mul_comm c.val 256)
    | ⟨1, _⟩ => rfl)
  have ha : (alpha (stgA m c) (stgB m c) : EReal) = HMul.hMul (α := EReal) (β := EReal)
      (m' ((z : Thread Cert.ReferenceIdeal.nD Cert.ReferenceIdeal.τ).loc Cert.ReferenceIdeal.main_arg2) Whole.one)
      (m' ((z : Thread Cert.ReferenceIdeal.nD Cert.ReferenceIdeal.τ).loc Cert.ReferenceIdeal.main_arg3) Whole.one) := by
    rw [alpha_eq, stgA_eq, stgB_eq, hA, hB]
  refine (outC_apply (opX m) (opW m) (alpha (stgA m c) (stgB m c)) c r q).trans ?_
  refine Eq.trans ?_ (congrArg (Whole.res m' z) hj).symm
  refine Eq.trans ?_ (Whole.pay_apply _ _ _ _ (row c r) q).symm
  rw [ha, ← sum_blocks]
  simp only [term, hx, hw]

/-- The value claim. -/
theorem algebraic : Cert.algebraic_KernelIdeal_ReferenceIdeal := fun m g m' g' _ h =>
  ⟨Whole.res m' 0,
    (θ_run Cert.KernelIdeal.defs _ _).mono
      (fun r H c => ⟨((H.1 c (4 : Fin 5)).trans (final_out m g c)).trans
        (out_eq m m' 0 (fun c => (h c).1) (fun c => (h c).2.1) (fun c => (h c).2.2.1) (fun c => (h c).2.2.2) c), args_kept m g r H.1 c⟩)
      (run_main (F := Ideal) m g),
    (θ_run Cert.ReferenceIdeal.defs _ _).mono
      (fun _ H => ⟨(H 0).1.trans (Whole.final_res m' 0), (H 0).2⟩)
      (Cert.ReferenceIdeal.Value.run_blocks (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
